-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_label_is_first_top [hPre_label_is_first_top : Cert.Pre_label_is_first_top.Facts] (m : (ℓ : Loc Cert.KernelIdeal.nD Cert.KernelIdeal.τ Cert.KernelIdeal.sig) → Buf (Elt Ideal) ℓ) : Prop :=
  ∀ c : Dev Cert.KernelIdeal.nD,
    (Cert.Pre_label_is_first_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_label_is_first_top [hPre_label_is_first_top : Cert.Pre_label_is_first_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_label_is_first_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_label_is_first_top [hKernelIdeal : Cert.KernelIdeal.Facts] [hPre_label_is_first_top : Cert.Pre_label_is_first_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_label_is_first_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_label_is_first_top [hReferenceIdeal : Cert.ReferenceIdeal.Facts] [hPre_label_is_first_top : Cert.Pre_label_is_first_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_label_is_first_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_label_is_first_top [hKernelIdeal : Cert.KernelIdeal.Facts] [hReferenceIdeal : Cert.ReferenceIdeal.Facts] [hPre_label_is_first_top : Cert.Pre_label_is_first_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_label_is_first_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_label_is_first_top : Cert.Pre_label_is_first_top.Facts),
    quiescent_Kernel (hKernel := hKernel)
    ∧ quiescent_KernelIdeal (hKernelIdeal := hKernelIdeal)
    ∧ quiescent_KernelIdeal_pre_label_is_first_top (hKernelIdeal := hKernelIdeal) (hPre_label_is_first_top := hPre_label_is_first_top)
    ∧ quiescent_ReferenceIdeal (hReferenceIdeal := hReferenceIdeal)
    ∧ quiescent_ReferenceIdeal_pre_label_is_first_top (hReferenceIdeal := hReferenceIdeal) (hPre_label_is_first_top := hPre_label_is_first_top)
    ∧ preserves_Kernel_KernelIdeal
    ∧ algebraic_KernelIdeal_ReferenceIdeal_pre_label_is_first_top (hKernelIdeal := hKernelIdeal) (hReferenceIdeal := hReferenceIdeal) (hPre_label_is_first_top := hPre_label_is_first_top)
-- ==== Pre_label_is_first_top.lean ====
abbrev S500000x100 : Shape := ⟨2, ![500000, 100]⟩
abbrev S500000 : Shape := ⟨1, ![500000]⟩
abbrev S500000x1 : Shape := ⟨2, ![500000, 1]⟩
abbrev S_ : Shape := ⟨0, ![]⟩

class Facts : Prop where
  bcast_S500000_S500000x1_0 : S500000.BroadcastsInDim S500000x1 (![0] : Fin 1 → Fin S500000x1.rank)
  reducesTo_S500000x100_S500000_d1 : S500000x100.ReducesTo [1] S500000
  h_S_ : 0 < S_.numel
  bcast_S500000x1_S500000x100_0_1 : S500000x1.BroadcastsInDim S500000x100 (![0, 1] : Fin 2 → Fin S500000x100.rank)
  bcast_S_S500000x100 : S_.BroadcastsInDim S500000x100 (![] : Fin 0 → Fin S500000x100.rank)
  bcast_S_S500000x1 : S_.BroadcastsInDim S500000x1 (![] : Fin 0 → Fin S500000x1.rank)

variable [Facts]

def fn_where {F : FTy → Type} [FloatOps F] (arg0 : IVec S500000x100 1) (arg1 : FVec F S500000x100 .f32) (arg2 : FVec F S_ .f32) : FVec F S500000x100 .f32 :=
  let v0 : FVec F S_ .f32 := id arg2
  let v1 : FVec F S500000x100 .f32 := broadcastInDim S500000x100 ![] bcast_S_S500000x100 v0
  let v2 : FVec F S500000x100 .f32 := select arg0 arg1 v1
  v2

def fn_part1 {F : FTy → Type} [FloatOps F] (main_v3 : FVec F S500000x1 .f32) (main_v8 : FVec F S500000x1 .f32) (main_v13 : IVec S500000x1 1) (main_v18 : IVec S500000x100 1) : IVec S500000x100 1 :=
  let main_v19 : IVec S500000x1 1 := cmpf .oeq main_v8 main_v3
  let main_v20 : IVec S500000x100 1 := broadcastInDim S500000x100 ![0, 1] bcast_S500000x1_S500000x100_0_1 main_v19
  let main_v21 : IVec S500000x100 1 := andi main_v18 main_v20
  let main_v22 : IVec S500000x100 1 := noti main_v21
  let main_v23 : IVec S500000x100 1 := broadcastInDim S500000x100 ![0, 1] bcast_S500000x1_S500000x100_0_1 main_v13
  let main_v24 : IVec S500000x100 1 := andi main_v23 main_v22
  main_v24

def fn {F : FTy → Type} [FloatOps F] (main_arg0 : FVec F S500000x100 .f32) (main_arg1 : IVec S500000 32) : IVec S500000x100 1 :=
  let main_v0 : IVec S500000x100 32 := iotaInDim S500000x100 32 1
  let main_v1 : IVec S500000x1 32 := broadcastInDim S500000x1 ![0] bcast_S500000_S500000x1_0 main_arg1
  let main_cst : FVec F S_ .f32 := constant S_ .f32 0xFF800000#32
  let main_v2 : FVec F S500000 .f32 := (fun x v => Host.reduce FloatOps.maximumf x v reducesTo_S500000x100_S500000_d1 h_S_) main_arg0 main_cst
  let main_v3 : FVec F S500000x1 .f32 := broadcastInDim S500000x1 ![0] bcast_S500000_S500000x1_0 main_v2
  let main_v4 : IVec S500000x100 32 := broadcastInDim S500000x100 ![0, 1] bcast_S500000x1_S500000x100_0_1 main_v1
  let main_v5 : IVec S500000x100 1 := cmpi .eq main_v0 main_v4
  let main_cst_0 : FVec F S_ .f32 := constant S_ .f32 0xFF800000#32
  let main_v6 : FVec F S500000x100 .f32 := fn_where (F := F) main_v5 main_arg0 main_cst_0
  let main_cst_1 : FVec F S_ .f32 := constant S_ .f32 0xFF800000#32
  let main_v7 : FVec F S500000 .f32 := (fun x v => Host.reduce FloatOps.maximumf x v reducesTo_S500000x100_S500000_d1 h_S_) main_v6 main_cst_1
  let main_v8 : FVec F S500000x1 .f32 := broadcastInDim S500000x1 ![0] bcast_S500000_S500000x1_0 main_v7
  let main_c : IVec S_ 32 := constantI S_ 32 0#32
  let main_v9 : IVec S500000x1 32 := broadcastInDim S500000x1 ![] bcast_S_S500000x1 main_c
  let main_v10 : IVec S500000x1 1 := cmpi .sge main_v1 main_v9
  let main_c_2 : IVec S_ 32 := constantI S_ 32 100#32
  let main_v11 : IVec S500000x1 32 := broadcastInDim S500000x1 ![] bcast_S_S500000x1 main_c_2
  let main_v12 : IVec S500000x1 1 := cmpi .slt main_v1 main_v11
  let main_v13 : IVec S500000x1 1 := andi main_v10 main_v12
  let main_v14 : IVec S500000x100 32 := broadcastInDim S500000x100 ![0, 1] bcast_S500000x1_S500000x100_0_1 main_v1
  let main_v15 : IVec S500000x100 1 := cmpi .slt main_v0 main_v14
  let main_v16 : FVec F S500000x100 .f32 := broadcastInDim S500000x100 ![0, 1] bcast_S500000x1_S500000x100_0_1 main_v3
  let main_v17 : IVec S500000x100 1 := cmpf .oeq main_arg0 main_v16
  let main_v18 : IVec S500000x100 1 := andi main_v15 main_v17
  fn_part1 (F := F) main_v3 main_v8 main_v13 main_v18
-- ==== Kernel.lean ====
abbrev S500000x100 : Shape := ⟨2, ![500000, 100]⟩
abbrev S500000 : Shape := ⟨1, ![500000]⟩
abbrev S125x1x4000 : Shape := ⟨3, ![125, 1, 4000]⟩
abbrev S1x1 : Shape := ⟨2, ![1, 1]⟩
abbrev S2x4000x100 : Shape := ⟨3, ![2, 4000, 100]⟩
abbrev S2x1x4000 : Shape := ⟨3, ![2, 1, 4000]⟩
abbrev S3x15 : Shape := ⟨2, ![3, 15]⟩
abbrev S2 : Shape := ⟨1, ![2]⟩
abbrev S1 : Shape := ⟨1, ![1]⟩
abbrev S_ : Shape := ⟨0, ![]⟩
abbrev S1x4000x100 : Shape := ⟨3, ![1, 4000, 100]⟩
abbrev S4000x100 : Shape := ⟨2, ![4000, 100]⟩
abbrev S1x1x4000 : Shape := ⟨3, ![1, 1, 4000]⟩
abbrev S1x4000 : Shape := ⟨2, ![1, 4000]⟩
abbrev S4000x1 : Shape := ⟨2, ![4000, 1]⟩
abbrev S4000 : Shape := ⟨1, ![4000]⟩
abbrev S1x15 : Shape := ⟨2, ![1, 15]⟩
abbrev S4000x15 : Shape := ⟨2, ![4000, 15]⟩
abbrev S15 : Shape := ⟨1, ![15]⟩

abbrev nBuf : Space → Nat
  | .hbm => 5
  | .vmem => 4
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S125x1x4000, .i32⟩
  | .hbm, ⟨3, _⟩ => ⟨S1x1, .f32⟩
  | .hbm, ⟨4, _⟩ => ⟨S1, .f32⟩
  | .local _ .vmem, ⟨0, _⟩ => ⟨S1x1, .f32⟩
  | .local _ .vmem, ⟨1, _⟩ => ⟨S2x4000x100, .f32⟩
  | .local _ .vmem, ⟨2, _⟩ => ⟨S2x1x4000, .i32⟩
  | .local _ .vmem, ⟨3, _⟩ => ⟨S3x15, .f32⟩
  | _, _ => ⟨S500000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c1_i32_2 : BitVec 32 := 1#32
  let v6 : BitVec 32 := Scalar.addi arg0 c1_i32_2
  let c125_i32 : BitVec 32 := 125#32
  let v7 : BitVec 1 := Scalar.cmpi .slt v6 c125_i32
  let v8 : BitVec 32 := Scalar.extui v7
  let c0_i32_3 : BitVec 32 := 0#32
  let v9 : BitVec 1 := Scalar.cmpi .ne v8 c0_i32_3
  v9

def k0_off1 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off2 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_38 : BitVec 32 := 0#32
  let c0_i32_39 : BitVec 32 := 0#32
  ![v2.toNat, 0, 0]
def k0_off3 (i : grid0.Coords) : Fin 2 → Nat :=
  let arg0 : BitVec 32 := BitVec.ofNat 32 (i 0).val
  let c1_i32_36 : BitVec 32 := 1#32
  let v95 : BitVec 32 := Scalar.addi arg0 c1_i32_36
  let c4000_i32_37 : BitVec 32 := 4000#32
  let v96 : BitVec 32 := Scalar.muli v95 c4000_i32_37
  let c0_i32_40 : BitVec 32 := 0#32
  ![v96.toNat, 0]
def k0_off4 (i : grid0.Coords) : Fin 3 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_42 : BitVec 32 := 0#32
  let c0_i32_43 : BitVec 32 := 0#32
  ![v2.toNat, 0, 0]
def k0_off5 (i : grid0.Coords) : Fin 3 → Nat :=
  let arg0 : BitVec 32 := BitVec.ofNat 32 (i 0).val
  let c1_i32_41 : BitVec 32 := 1#32
  let v102 : BitVec 32 := Scalar.addi arg0 c1_i32_41
  let c0_i32_44 : BitVec 32 := 0#32
  let c0_i32_45 : BitVec 32 := 0#32
  ![v102.toNat, 0, 0]
def k0_off6 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off7 (i : grid0.Coords) : Fin 3 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  ![v0.toNat, 0, 0]
def k0_off8 (i : grid0.Coords) : Fin 2 → Nat :=
  let arg0 : BitVec 32 := BitVec.ofNat 32 (i 0).val
  let c4000_i32 : BitVec 32 := 4000#32
  let v10 : BitVec 32 := Scalar.muli arg0 c4000_i32
  let c0_i32_6 : BitVec 32 := 0#32
  ![v10.toNat, 0]
def k0_off9 (i : grid0.Coords) : Fin 3 → Nat :=
  let arg0 : BitVec 32 := BitVec.ofNat 32 (i 0).val
  let c2_i32 : BitVec 32 := 2#32
  let v0 : BitVec 32 := Scalar.remsi arg0 c2_i32
  let c0_i32_7 : BitVec 32 := 0#32
  let c0_i32_8 : BitVec 32 := 0#32
  ![v0.toNat, 0, 0]
def k0_off10 (i : grid0.Coords) : Fin 3 → Nat :=
  let arg0 : BitVec 32 := BitVec.ofNat 32 (i 0).val
  let c0_i32_9 : BitVec 32 := 0#32
  let c0_i32_10 : BitVec 32 := 0#32
  ![arg0.toNat, 0, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v22 : Index := Scalar.indexCast v0
  let c0 : Index := 0#32
  let c0_11 : Index := 0#32
  ![v22.toNat, 0, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v25 : Index := Scalar.indexCast v0
  let c0_12 : Index := 0#32
  let c0_13 : Index := 0#32
  ![v25.toNat, 0, 0]
def k0_cond3 (i : grid0.Coords) : BitVec 1 :=
  let arg0 : BitVec 32 := BitVec.ofNat 32 (i 0).val
  let c124_i32 : BitVec 32 := 124#32
  let v92 : BitVec 1 := Scalar.cmpi .eq arg0 c124_i32
  let v93 : BitVec 32 := Scalar.extui v92
  let c0_i32_35 : BitVec 32 := 0#32
  let v94 : BitVec 1 := Scalar.cmpi .ne v93 c0_i32_35
  v94

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S500000x100 : Shape := ⟨2, ![500000, 100]⟩
abbrev S500000 : Shape := ⟨1, ![500000]⟩
abbrev S_ : Shape := ⟨0, ![]⟩
abbrev S500000x1 : Shape := ⟨2, ![500000, 1]⟩
abbrev S15 : Shape := ⟨1, ![15]⟩
abbrev S1 : Shape := ⟨1, ![1]⟩
abbrev S16 : Shape := ⟨1, ![16]⟩
abbrev S1x500000 : Shape := ⟨2, ![1, 500000]⟩
abbrev S15x1 : Shape := ⟨2, ![15, 1]⟩
abbrev S15x500000 : Shape := ⟨2, ![15, 500000]⟩

abbrev nBuf : Space → Nat
  | .hbm => 95
  | .vmem => 0
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S_, .f32⟩
  | .hbm, ⟨3, _⟩ => ⟨S500000, .f32⟩
  | .hbm, ⟨4, _⟩ => ⟨S_, .f32⟩
  | .hbm, ⟨5, _⟩ => ⟨S500000, .f32⟩
  | .hbm, ⟨6, _⟩ => ⟨S500000, .f32⟩
  | .hbm, ⟨7, _⟩ => ⟨S500000x1, .f32⟩
  | .hbm, ⟨8, _⟩ => ⟨S500000x100, .f32⟩
  | .hbm, ⟨9, _⟩ => ⟨S500000x100, .f32⟩
  | .hbm, ⟨10, _⟩ => ⟨S500000x100, .f32⟩
  | .hbm, ⟨11, _⟩ => ⟨S_, .f32⟩
  | .hbm, ⟨12, _⟩ => ⟨S500000, .f32⟩
  | .hbm, ⟨13, _⟩ => ⟨S500000x1, .f32⟩
  | .hbm, ⟨14, _⟩ => ⟨S500000x100, .f32⟩
  | .hbm, ⟨15, _⟩ => ⟨S500000x100, .f32⟩
  | .hbm, ⟨16, _⟩ => ⟨S_, .f32⟩
  | .hbm, ⟨17, _⟩ => ⟨S500000, .f32⟩
  | .hbm, ⟨18, _⟩ => ⟨S500000x100, .i32⟩
  | .hbm, ⟨19, _⟩ => ⟨S_, .f32⟩
  | .hbm, ⟨20, _⟩ => ⟨S_, .i32⟩
  | .hbm, ⟨21, _⟩ => ⟨S500000, .f32⟩
  | .hbm, ⟨22, _⟩ => ⟨S500000, .i32⟩
  | .hbm, ⟨23, _⟩ => ⟨S500000, .i1⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S15, .f32⟩
  | .hbm, ⟨32, _⟩ => ⟨S_, .f32⟩
  | .hbm, ⟨33, _⟩ => ⟨S15, .f32⟩
  | .hbm, ⟨34, _⟩ => ⟨S15, .f32⟩
  | .hbm, ⟨35, _⟩ => ⟨S1, .f32⟩
  | .hbm, ⟨36, _⟩ => ⟨S_, .f32⟩
  | .hbm, ⟨37, _⟩ => ⟨S15, .f32⟩
  | .hbm, ⟨38, _⟩ => ⟨S15, .f32⟩
  | .hbm, ⟨39, _⟩ => ⟨S15, .f32⟩
  | .hbm, ⟨40, _⟩ => ⟨S15, .f32⟩
  | .hbm, ⟨41, _⟩ => ⟨S1, .f32⟩
  | .hbm, ⟨42, _⟩ => ⟨S15, .f32⟩
  | .hbm, ⟨43, _⟩ => ⟨S15, .f32⟩
  | .hbm, ⟨44, _⟩ => ⟨S15, .f32⟩
  | .hbm, ⟨45, _⟩ => ⟨S1, .f32⟩
  | .hbm, ⟨46, _⟩ => ⟨S16, .f32⟩
  | .hbm, ⟨47, _⟩ => ⟨S15, .f32⟩
  | .hbm, ⟨48, _⟩ => ⟨S15, .f32⟩
  | .hbm, ⟨49, _⟩ => ⟨S1x500000, .f32⟩
  | .hbm, ⟨50, _⟩ => ⟨S15x1, .f32⟩
  | .hbm, ⟨51, _⟩ => ⟨S15x500000, .f32⟩
  | .hbm, ⟨52, _⟩ => ⟨S15x500000, .f32⟩
  | .hbm, ⟨53, _⟩ => ⟨S15x500000, .i1⟩
  | .hbm, ⟨54, _⟩ => ⟨S1x500000, .f32⟩
  | .hbm, ⟨55, _⟩ => ⟨S15x1, .f32⟩
  | .hbm, ⟨56, _⟩ => ⟨S15x500000, .f32⟩
  | .hbm, ⟨57, _⟩ => ⟨S15x500000, .f32⟩
  | .hbm, ⟨58, _⟩ => ⟨S15x500000, .i1⟩
  | .hbm, ⟨59, _⟩ => ⟨S15x500000, .i1⟩
  | .hbm, ⟨60, _⟩ => ⟨S15x500000, .f32⟩
  | .hbm, ⟨61, _⟩ => ⟨S_, .f32⟩
  | .hbm, ⟨62, _⟩ => ⟨S15, .f32⟩
  | .hbm, ⟨63, _⟩ => ⟨S_, .f32⟩
  | .hbm, ⟨64, _⟩ => ⟨S15, .f32⟩
  | .hbm, ⟨65, _⟩ => ⟨S15, .f32⟩
  | .hbm, ⟨66, _⟩ => ⟨S_, .f32⟩
  | .hbm, ⟨67, _⟩ => ⟨S15, .f32⟩
  | .hbm, ⟨68, _⟩ => ⟨S15, .f32⟩
  | .hbm, ⟨69, _⟩ => ⟨S500000, .f32⟩
  | .hbm, ⟨70, _⟩ => ⟨S1x500000, .f32⟩
  | .hbm, ⟨71, _⟩ => ⟨S15x500000, .f32⟩
  | .hbm, ⟨72, _⟩ => ⟨S15x500000, .f32⟩
  | .hbm, ⟨73, _⟩ => ⟨S_, .f32⟩
  | .hbm, ⟨74, _⟩ => ⟨S15, .f32⟩
  | .hbm, ⟨75, _⟩ => ⟨S15, .f32⟩
  | .hbm, ⟨76, _⟩ => ⟨S1x500000, .f32⟩
  | .hbm, ⟨77, _⟩ => ⟨S15x500000, .f32⟩
  | .hbm, ⟨78, _⟩ => ⟨S15x500000, .f32⟩
  | .hbm, ⟨79, _⟩ => ⟨S_, .f32⟩
  | .hbm, ⟨80, _⟩ => ⟨S15, .f32⟩
  | .hbm, ⟨81, _⟩ => ⟨S15, .f32⟩
  | .hbm, ⟨82, _⟩ => ⟨S15, .f32⟩
  | .hbm, ⟨83, _⟩ => ⟨S15, .f32⟩
  | .hbm, ⟨84, _⟩ => ⟨S15, .f32⟩
  | .hbm, ⟨85, _⟩ => ⟨S_, .f32⟩
  | .hbm, ⟨86, _⟩ => ⟨S15, .f32⟩
  | .hbm, ⟨87, _⟩ => ⟨S15, .i1⟩
  | .hbm, ⟨88, _⟩ => ⟨S_, .f32⟩
  | .hbm, ⟨89, _⟩ => ⟨S_, .f32⟩
  | .hbm, ⟨90, _⟩ => ⟨S15, .f32⟩
  | .hbm, ⟨91, _⟩ => ⟨S15, .f32⟩
  | .hbm, ⟨92, _⟩ => ⟨S_, .f32⟩
  | .hbm, ⟨93, _⟩ => ⟨S_, .f32⟩
  | .hbm, ⟨94, _⟩ => ⟨S1, .f32⟩
  | _, _ => ⟨S500000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_cst : Ref sig .tc := ⟨.hbm, 29, rfl⟩
abbrev main_call1_v3 : Ref sig .tc := ⟨.hbm, 30, rfl⟩
abbrev main_call1_v4 : Ref sig .tc := ⟨.hbm, 31, rfl⟩
abbrev main_call1_cst_0 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_v15 : Ref sig .tc := ⟨.hbm, 44, rfl⟩
abbrev main_call1_v16 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_5 : Ref sig .tc := ⟨.hbm, 61, rfl⟩
abbrev main_v29 : Ref sig .tc := ⟨.hbm, 62, rfl⟩
abbrev main_cst_6 : Ref sig .tc := ⟨.hbm, 63, rfl⟩
abbrev main_v30 : Ref sig .tc := ⟨.hbm, 64, rfl⟩
abbrev main_v31 : Ref sig .tc := ⟨.hbm, 65, rfl⟩
abbrev main_cst_7 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_v49 : Ref sig .tc := ⟨.hbm, 87, rfl⟩
abbrev main_cst_11 : Ref sig .tc := ⟨.hbm, 88, rfl⟩
abbrev main_call2_v0 : Ref sig .tc := ⟨.hbm, 89, rfl⟩
abbrev main_call2_v1 : Ref sig .tc := ⟨.hbm, 90, rfl⟩
abbrev main_v50 : Ref sig .tc := ⟨.hbm, 91, rfl⟩
abbrev main_cst_12 : Ref sig .tc := ⟨.hbm, 92, rfl⟩
abbrev main_v51 : Ref sig .tc := ⟨.hbm, 93, rfl⟩
abbrev main_v52 : Ref sig .tc := ⟨.hbm, 94, rfl⟩

abbrev nD : Nat := 1
abbrev τ : Topo := Topo.v7x

variable {F : FTy → Type} [FloatOps F]
-- ==== Proof.IdealRing.lean ====
/- The two transfer rings of the idealized kernel: `main_arg0` (logits) and `main_v0` (labels) each streamed through two
   scratch slots, one block ahead, in 125 steps. Branch conditions in closed form, the slots, blocks and cells named, what the
   launch hands the rings and takes back. -/
module

public import proofs.«01_k».proof.Proof.Gen.KernelIdeal.Frame
public import proofs.«01_k».proof.Proof.Gen.KernelIdeal.Skeleton
public import Idealize.ShloMosaic.Lib.Pipeline.FrameSuffixR

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 125 = 0 :=
  (fun t => by
    have ht : t.val < 125 := Nat.lt_of_lt_of_eq t.isLt N_0
    have e0 : (grid0.coords t 0).val = t.val / 1 % 125 := Pipeline.Grid.coords_val t 0 (by decide) rfl
    simp only [cond0_0, e0]
    word_cmp
   : ∀ t : Fin grid0.N, cond0_0 (grid0.coords t) ↔ t.val % 125 = 0)

/-- The condition of the body's `scf.if` 1 (`k0_h2`), from the grid coordinates (the skeleton's scalar
    chain substituted). -/
abbrev cond0_1 (i : grid0.Coords) : Prop := k0_cond2 i = 1#1
/-- It holds at the points before point 124 — decided over the grid. -/
theorem hcond0_1 : ∀ t : Fin cfg0.N, cond0_1 (grid0.coords t) ↔ t.val < 124 :=
  (by decide +kernel : ∀ t : Fin grid0.N, cond0_1 (grid0.coords t) ↔ t.val < 124)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 125 = 124 :=
  (fun t => by
    have ht : t.val < 125 := Nat.lt_of_lt_of_eq t.isLt N_0
    have e0 : (grid0.coords t 0).val = t.val / 1 % 125 := Pipeline.Grid.coords_val t 0 (by decide) rfl
    simp only [cond0_2, k0_cond3, e0]
    word_cmp
   : ∀ t : Fin grid0.N, cond0_2 (grid0.coords t) ↔ t.val % 125 = 124)

/-! ## The buffers and semaphores of the body -/

/-- Each window's current staging memref at point `t`, spelled as the pipeline passes it (`bodyAt0`), and its wholeness. -/
abbrev ms0_0 (t : Fin cfg0.N) : Memref sig .tc .vmem S1x1 .f32 := win0_0.stage (cfg0.slots t 0)
abbrev hs0_0 (t : Fin cfg0.N) : (ms0_0 t).IsWhole := hstage0_0 ((cfg0.slots t 0).cast nbuf0_0)
/-- The scratch operands: whole scoped buffers of the kernel's own, passed beside the windows. -/
abbrev scM0_0 : Memref sig .tc .vmem S2x4000x100 .f32 := Memref.whole cc0_scratch0
abbrev scM0_1 : Memref sig .tc .vmem S2x1x4000 .i32 := Memref.whole cc0_scratch1
abbrev scM0_2 : Memref sig .tc .vmem S3x15 .f32 := Memref.whole cc0_scratch2
/-- The operands left in HBM that the body copies into scratch itself, whole. -/
abbrev hbM0_0 : Memref sig .tc .hbm S500000x100 .f32 := Memref.whole main_arg0
abbrev hbM0_1 : Memref sig .tc .hbm S125x1x4000 .i32 := Memref.whole main_v0
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 1, SemLoc.dma 2, SemLoc.dma 3, SemLoc.dma 4] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg0, main_v0}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_v0)) := by
  rw [BI.bigSep_eq_bigSepL_of_eq [main_arg0, main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0) ∗ iprop(hbPt0 c hbM0_0 (V m c main_arg0) ∗ hbPt0 c hbM0_1 (V m c main_v0))) := by
  rw [Pipeline.ΦD_eq, scopedRest0_eq, ownSems00_eq, hbmPts0_eq]; simp only [scM0_0, scM0_1, scM0_2, owns_whole]; try rfl

/-! ## Ring 0 of kernel 0: `main_arg0` streamed through the 2 slots of `cc0_scratch0` on the cells of `cc0_scratch3`, 1 block ahead, in 125 steps -/

instance : NeZero grid0.N := ⟨by rw [N_0]; decide⟩
theorem inb_slot0_0 (s : Fin 2) : ∀ a, (![s.val, 0, 0] : Fin 3 → Nat) a + S1x4000x100.size a ≤ S2x4000x100.size a := by
  have := s.isLt; intro a; fin_cases a <;> simp <;> omega
theorem inb_src0_0 (b : Fin 125) : ∀ a, (![4000 * b.val, 0] : Fin 2 → Nat) a + S4000x100.size a ≤ S500000x100.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S4000x100 .f32 :=
  (scM0_0.slice (Rect.unit (s := S2x4000x100) ![s.val, 0, 0] S1x4000x100.size (inb_slot0_0 s)) (fun _ => rfl)).squeeze S4000x100 squeezes_S1x4000x100_S4000x100
/-- Block `b` of the operand (the block step `b` waits), spelt as the transfers spell their source, at offsets in `b`. -/
def srcB0_0 (b : Fin 125) : Memref sig .tc .hbm S4000x100 .f32 :=
  hbM0_0.slice (Rect.unit (s := S500000x100) ![4000 * b.val, 0] S4000x100.size (inb_src0_0 b)) (fun _ => rfl)
/-- Cell `s` of `cc0_scratch3`, spelt as the body spells a cell; its number in the pool. -/
def cellA0_0 (s : Fin 2) : DmaSems sig S_ := (cc0_scratch3.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 1 := by decide
theorem cellR0_0_1 : cellR0_0 1 = SemLoc.dma 2 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f`; the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 125) : sProp 𝕄 := (srcB0_0 b).view.loc (c : Thread nD τ) ↦[(srcB0_0 b).view.set]{qs0_0 s} W
/-- The rest of slot `s`'s copy, which no step reads. -/
def restP0_0 (s : Fin 2) (b : Fin 125) : sProp 𝕄 := ((c : Thread nD τ).loc main_arg0) ↦[Finset.univ \ (srcB0_0 b).view.set]{qs0_0 s} W
abbrev wholeP0_0 (s : Fin 2) : sProp 𝕄 := ((c : Thread nD τ).loc main_arg0) ↦[Finset.univ]{qs0_0 s} W
abbrev landed0_0 (s : Fin 2) (b : Fin 125) (f : HbBuf0 (F := F) c (rslot0_0 s)) : HbBuf0 (F := F) c (rslot0_0 s) :=
  (rslot0_0 s).view.writes (Elt F) f [⟨Rect.whole S4000x100, ReadAs.same.apply ((srcB0_0 b).view.read (Elt F) W)⟩]
abbrev flightP0_0 (s : Fin 2) (b : Fin 125) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 125) (f : HbBuf0 (F := F) c (rslot0_0 s)) : sProp 𝕄 := iprop(flightP0_0 c W s b f ∗ restP0_0 c W s b)
abbrev noHome0_0 (b : Fin 125) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 1) 0 := congrArg (fun x => (semVal ((c : Thread nD τ), x) 0 : sProp 𝕄)) cellR0_0_0
omit [FloatOps F] in
theorem cellP0_0_1 : cellP0_0 (F := F) c 1 = semVal ((c : Thread nD τ), SemLoc.dma 2) 0 := congrArg (fun x => (semVal ((c : Thread nD τ), x) 0 : sProp 𝕄)) cellR0_0_1
end Ring0_0

/-! ### The slots, disjoint and covering the scratch (Lib/Ring.lean `lead_disjoint` / `lead_cover`) -/

abbrev slotSet0_0 (s : Fin 2) : Finset S2x4000x100.Idx := (Rect.unit (s := S2x4000x100) ![s.val, 0, 0] S1x4000x100.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x4000x100) (0 : Fin 3) 1 (fun s : Fin 2 => (![s.val, 0, 0] : Fin 3 → Nat)) S1x4000x100.size inb_slot0_0 (fun s => by simp) rfl s s' h
theorem slots0_0_cover : Finset.univ.biUnion slotSet0_0 = Finset.univ :=
  Ring.lead_cover (s := S2x4000x100) (0 : Fin 3) 1 (fun s : Fin 2 => (![s.val, 0, 0] : Fin 3 → Nat)) S1x4000x100.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 125) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ ∃ f, slotP0_0 (F := F) c 1 f) : sProp 𝕄) := by
  simp only [scM0_0, owns_whole]
  exact Ring.slots2_split (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 1) 0 ∗ semVal ((c : Thread nD τ), SemLoc.dma 2) 0) ∗ hbPt0 c hbM0_0 (V m c main_arg0))
      ⊢ ringAt0_0 c (V m c main_arg0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_arg0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_arg0) 125
      ⊢ iprop((∃ d, owns (c : Thread nD τ) scM0_0 fullShare d) ∗ (semVal ((c : Thread nD τ), SemLoc.dma 1) 0 ∗ semVal ((c : Thread nD τ), SemLoc.dma 2) 0) ∗ hbPt0 c hbM0_0 (V m c main_arg0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_arg0)).2; isplitl [HW0]; · iexact HW0
    iexact HW1

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → ¬cond0_2 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → ¬cond0_2 (grid0.coords t) → 1 ≤ t.val ∧ t.val + 1 < 125 ∧ (t.val + 1) = t.val + 1 := by decide +kernel
/-- At the points of case C the ring takes its LAST step. -/
theorem rstep0_0_C : ∀ t : Fin grid0.N, ¬cond0_0 (grid0.coords t) → ¬cond0_1 (grid0.coords t) → cond0_2 (grid0.coords t) → 1 ≤ t.val ∧ t.val + 1 = 125 ∧ (t.val + 1) = t.val + 1 := by decide +kernel
set_option synthInstance.maxSize 4096 in
theorem coff0_0_1 : ∀ t : Fin grid0.N, cond0_0 (grid0.coords t) → cond0_1 (grid0.coords t) → ¬cond0_2 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) (h2 : ¬cond0_2 (grid0.coords t)) :
    (scM0_0.slice (Rect.unit (s := S2x4000x100) ![0, 0, 0] S1x4000x100.size inb_S2x4000x100_S1x4000x100_0_0_0) (fun _ => rfl)).squeeze S4000x100 squeezes_S1x4000x100_S4000x100 = rslot0_0 (Ring.sl 2 t.val) :=
  congrArg (fun M : Memref sig .tc .vmem S1x4000x100 .f32 => M.squeeze S4000x100 squeezes_S1x4000x100_S4000x100) (Memref.slice_unit_congr _ (coff0_0_1 t h0 h1 h2) _ _ (fun _ => rfl) (fun _ => rfl))
set_option synthInstance.maxSize 4096 in
theorem coff0_0_2 : ∀ t : Fin grid0.N, cond0_0 (grid0.coords t) → cond0_1 (grid0.coords t) → ¬cond0_2 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) (h2 : ¬cond0_2 (grid0.coords t)) :
    (cc0_scratch3.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1 h2) _ _)
set_option synthInstance.maxSize 4096 in
theorem coff0_0_3 : ∀ t : Fin grid0.N, cond0_0 (grid0.coords t) → cond0_1 (grid0.coords t) → ¬cond0_2 (grid0.coords t) → (![0, 0] : Fin 2 → Nat) = ![4000 * (Ring.bk 125 t.val).val, 0] := by decide +kernel
@[sl_canon] theorem canon0_0_3 (t : Fin grid0.N) (h0 : cond0_0 (grid0.coords t)) (h1 : cond0_1 (grid0.coords t)) (h2 : ¬cond0_2 (grid0.coords t)) :
    hbM0_0.slice (Rect.unit (s := S500000x100) ![0, 0] S4000x100.size inb_S500000x100_S4000x100_0_0) (fun _ => rfl) = srcB0_0 (Ring.bk 125 t.val) :=
  congrArg (fun M : Memref sig .tc .hbm S4000x100 .f32 => M) (Memref.slice_unit_congr _ (coff0_0_3 t h0 h1 h2) _ _ (fun _ => rfl) (fun _ => rfl))
set_option synthInstance.maxSize 4096 in
theorem coff0_0_4 : ∀ t : Fin grid0.N, k0_off2 (grid0.coords t) = ![(Ring.sl 2 (t.val + 1)).val, 0, 0] := by decide +kernel
@[sl_canon] theorem canon0_0_4 (t : Fin grid0.N) (h1 : cond0_1 (grid0.coords t)) :
    (scM0_0.slice (Rect.unit (s := S2x4000x100) (k0_off2 (grid0.coords t)) S1x4000x100.size (k0_off2_inb (grid0.coords t) h1)) (fun _ => rfl)).squeeze S4000x100 squeezes_S1x4000x100_S4000x100 = rslot0_0 (Ring.sl 2 (t.val + 1)) :=
  congrArg (fun M : Memref sig .tc .vmem S1x4000x100 .f32 => M.squeeze S4000x100 squeezes_S1x4000x100_S4000x100) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 (t.val + 1)).val] := by decide +kernel
@[sl_canon] theorem canon0_0_5 (t : Fin grid0.N) (h1 : cond0_1 (grid0.coords t)) :
    (cc0_scratch3.slice (Rect.unit (s := S2) (k0_off1 (grid0.coords t)) S1.size (k0_off1_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_5 t ) _ _)
set_option synthInstance.maxSize 4096 in
theorem coff0_0_6 : ∀ t : Fin grid0.N, cond0_0 (grid0.coords t) → cond0_1 (grid0.coords t) → ¬cond0_2 (grid0.coords t) → k0_off3 (grid0.coords t) = ![4000 * (Ring.bk 125 (t.val + 1)).val, 0] := by decide +kernel
@[sl_canon] theorem canon0_0_6 (t : Fin grid0.N) (h0 : cond0_0 (grid0.coords t)) (h1 : cond0_1 (grid0.coords t)) (h2 : ¬cond0_2 (grid0.coords t)) :
    hbM0_0.slice (Rect.unit (s := S500000x100) (k0_off3 (grid0.coords t)) S4000x100.size (k0_off3_inb (grid0.coords t) h1)) (fun _ => rfl) = srcB0_0 (Ring.bk 125 (t.val + 1)) :=
  congrArg (fun M : Memref sig .tc .hbm S4000x100 .f32 => M) (Memref.slice_unit_congr _ (coff0_0_6 t h0 h1 h2) _ _ (fun _ => rfl) (fun _ => rfl))
set_option synthInstance.maxSize 4096 in
theorem coff0_0_7 : ∀ t : Fin grid0.N, k0_off7 (grid0.coords t) = ![(Ring.sl 2 t.val).val, 0, 0] := by decide +kernel
@[sl_canon] theorem canon0_0_7 (t : Fin grid0.N) :
    (scM0_0.slice (Rect.unit (s := S2x4000x100) (k0_off7 (grid0.coords t)) S1x4000x100.size (k0_off7_inb (grid0.coords t))) (fun _ => rfl)).squeeze S4000x100 squeezes_S1x4000x100_S4000x100 = rslot0_0 (Ring.sl 2 t.val) :=
  congrArg (fun M : Memref sig .tc .vmem S1x4000x100 .f32 => M.squeeze S4000x100 squeezes_S1x4000x100_S4000x100) (Memref.slice_unit_congr _ (coff0_0_7 t ) _ _ (fun _ => rfl) (fun _ => rfl))
set_option synthInstance.maxSize 4096 in
theorem coff0_0_8 : ∀ t : Fin grid0.N, k0_off6 (grid0.coords t) = ![(Ring.sl 2 t.val).val] := by decide +kernel
@[sl_canon] theorem canon0_0_8 (t : Fin grid0.N) :
    (cc0_scratch3.slice (Rect.unit (s := S2) (k0_off6 (grid0.coords t)) S1.size (k0_off6_inb (grid0.coords t)))).squeeze S_ squeezes_S1_S_ = cellA0_0 (Ring.sl 2 t.val) :=
  congrArg (fun A : DmaSems sig S1 => A.squeeze S_ squeezes_S1_S_) (SemArray.slice_unit_congr _ (coff0_0_8 t ) _ _)
set_option synthInstance.maxSize 4096 in
theorem coff0_0_9 : ∀ t : Fin grid0.N, ¬cond0_0 (grid0.coords t) → cond0_1 (grid0.coords t) → ¬cond0_2 (grid0.coords t) → k0_off3 (grid0.coords t) = ![4000 * (Ring.bk 125 (t.val + 1)).val, 0] := by decide +kernel
@[sl_canon] theorem canon0_0_9 (t : Fin grid0.N) (h0 : ¬cond0_0 (grid0.coords t)) (h1 : cond0_1 (grid0.coords t)) (h2 : ¬cond0_2 (grid0.coords t)) :
    hbM0_0.slice (Rect.unit (s := S500000x100) (k0_off3 (grid0.coords t)) S4000x100.size (k0_off3_inb (grid0.coords t) h1)) (fun _ => rfl) = srcB0_0 (Ring.bk 125 (t.val + 1)) :=
  congrArg (fun M : Memref sig .tc .hbm S4000x100 .f32 => M) (Memref.slice_unit_congr _ (coff0_0_9 t h0 h1 h2) _ _ (fun _ => rfl) (fun _ => rfl))
set_option synthInstance.maxSize 4096 in
theorem coff0_0_10 : ∀ t : Fin grid0.N, k0_off11 (grid0.coords t) = ![(Ring.sl 2 t.val).val, 0, 0] := by decide +kernel
/-- The load's box of the block this step waited for, in the slot's spelling: it lies inside that slot. -/
instance (priority := high) closedOff0_0_10 (t : Fin grid0.N) : ClosedOff (k0_off11 (grid0.coords t)) := ⟨![(Ring.sl 2 t.val).val, 0, 0], coff0_0_10 t⟩
end Canon0_0

/-! ## Ring 1 of kernel 0: `main_v0` streamed through the 2 slots of `cc0_scratch1` on the cells of `cc0_scratch4`, 1 block ahead, in 125 steps -/

theorem inb_slot0_1 (s : Fin 2) : ∀ a, (![s.val, 0, 0] : Fin 3 → Nat) a + S1x1x4000.size a ≤ S2x1x4000.size a := by
  have := s.isLt; intro a; fin_cases a <;> simp <;> omega
theorem inb_src0_1 (b : Fin 125) : ∀ a, (![1 * b.val, 0, 0] : Fin 3 → Nat) a + S1x1x4000.size a ≤ S125x1x4000.size a := by
  have := b.isLt; intro a; fin_cases a <;> simp <;> omega
theorem inb_cell0_1 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_1 (s : Fin 2) : Memref sig .tc .vmem S1x4000 .i32 :=
  (scM0_1.slice (Rect.unit (s := S2x1x4000) ![s.val, 0, 0] S1x1x4000.size (inb_slot0_1 s)) (fun _ => rfl)).squeeze S1x4000 squeezes_S1x1x4000_S1x4000
/-- Block `b` of the operand (the block step `b` waits), spelt as the transfers spell their source, at offsets in `b`. -/
def srcB0_1 (b : Fin 125) : Memref sig .tc .hbm S1x4000 .i32 :=
  (hbM0_1.slice (Rect.unit (s := S125x1x4000) ![1 * b.val, 0, 0] S1x1x4000.size (inb_src0_1 b)) (fun _ => rfl)).squeeze S1x4000 squeezes_S1x1x4000_S1x4000
/-- Cell `s` of `cc0_scratch4`, spelt as the body spells a cell; its number in the pool. -/
def cellA0_1 (s : Fin 2) : DmaSems sig S_ := (cc0_scratch4.slice (Rect.unit (s := S2) ![s.val] S1.size (inb_cell0_1 s))).squeeze S_ squeezes_S1_S_
abbrev cellR0_1 (s : Fin 2) : SemLoc sig := SemLoc.dma (cellA0_1 s).sem
theorem cellR0_1_0 : cellR0_1 0 = SemLoc.dma 3 := by decide
theorem cellR0_1_1 : cellR0_1 1 = SemLoc.dma 4 := by decide

section Ring0_1
variable (c : Dev nD) (W : HbBuf0 (F := F) c hbM0_1)
/-- The operand is lent BY SHARE, one read-share copy of it per slot (the left and right halves of the full share): whatever
    blocks two transfers in flight stream — the same one twice, two that overlap —, each borrows from its own slot's copy. -/
abbrev qs0_1 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f`; the FLIGHT of block `b` into slot `s`, delivering the slot landed
    and the lent elements back. -/
abbrev slotP0_1 (s : Fin 2) (f : HbBuf0 (F := F) c (rslot0_1 s)) : sProp 𝕄 := (rslot0_1 s).view.loc (c : Thread nD τ) ↦[(rslot0_1 s).view.set]{fullShare} f
abbrev cellP0_1 (s : Fin 2) : sProp 𝕄 := semVal ((c : Thread nD τ), cellR0_1 s) 0
abbrev srcP0_1 (s : Fin 2) (b : Fin 125) : sProp 𝕄 := (srcB0_1 b).view.loc (c : Thread nD τ) ↦[(srcB0_1 b).view.set]{qs0_1 s} W
/-- The rest of slot `s`'s copy, which no step reads. -/
def restP0_1 (s : Fin 2) (b : Fin 125) : sProp 𝕄 := ((c : Thread nD τ).loc main_v0) ↦[Finset.univ \ (srcB0_1 b).view.set]{qs0_1 s} W
abbrev wholeP0_1 (s : Fin 2) : sProp 𝕄 := ((c : Thread nD τ).loc main_v0) ↦[Finset.univ]{qs0_1 s} W
abbrev landed0_1 (s : Fin 2) (b : Fin 125) (f : HbBuf0 (F := F) c (rslot0_1 s)) : HbBuf0 (F := F) c (rslot0_1 s) :=
  (rslot0_1 s).view.writes (Elt F) f [⟨Rect.whole S1x4000, ReadAs.same.apply ((srcB0_1 b).view.read (Elt F) W)⟩]
abbrev flightP0_1 (s : Fin 2) (b : Fin 125) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
/-- Lib/Ring.lean's `slot` and `flight` families: a slot not in flight carries its copy of the operand whole; a flight, the
    rest of the copy it borrowed from. No block is held apart: the `home` family is `emp`. -/
abbrev slotW0_1 (s : Fin 2) (f : HbBuf0 (F := F) c (rslot0_1 s)) : sProp 𝕄 := iprop(slotP0_1 c s f ∗ wholeP0_1 c W s)
abbrev flightW0_1 (s : Fin 2) (b : Fin 125) (f : HbBuf0 (F := F) c (rslot0_1 s)) : sProp 𝕄 := iprop(flightP0_1 c W s b f ∗ restP0_1 c W s b)
abbrev noHome0_1 (b : Fin 125) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt0_1 (k : ℕ) : sProp 𝕄 :=
  if k = 0 then Ring.At₀ (cellP0_1 c) (slotW0_1 c W) noHome0_1
  else Ring.AtK 1 (cellP0_1 c) (slotW0_1 c W) noHome0_1 (flightW0_1 c W) (landed0_1 c W) k
omit [FloatOps F] in
theorem cellP0_1_0 : cellP0_1 (F := F) c 0 = semVal ((c : Thread nD τ), SemLoc.dma 3) 0 := congrArg (fun x => (semVal ((c : Thread nD τ), x) 0 : sProp 𝕄)) cellR0_1_0
omit [FloatOps F] in
theorem cellP0_1_1 : cellP0_1 (F := F) c 1 = semVal ((c : Thread nD τ), SemLoc.dma 4) 0 := congrArg (fun x => (semVal ((c : Thread nD τ), x) 0 : sProp 𝕄)) cellR0_1_1
end Ring0_1

/-! ### The slots, disjoint and covering the scratch (Lib/Ring.lean `lead_disjoint` / `lead_cover`) -/

abbrev slotSet0_1 (s : Fin 2) : Finset S2x1x4000.Idx := (Rect.unit (s := S2x1x4000) ![s.val, 0, 0] S1x1x4000.size (inb_slot0_1 s)).set
theorem slotSet0_1_eq (s : Fin 2) : (rslot0_1 s).view.set = slotSet0_1 s := by
  simp only [rslot0_1, Memref.view_squeeze, View.set_reshape]; exact View.set_slice_whole _ _
theorem slots0_1_disjoint (s s' : Fin 2) (h : s ≠ s') : Disjoint (slotSet0_1 s) (slotSet0_1 s') :=
  Ring.lead_disjoint (s := S2x1x4000) (0 : Fin 3) 1 (fun s : Fin 2 => (![s.val, 0, 0] : Fin 3 → Nat)) S1x1x4000.size inb_slot0_1 (fun s => by simp) rfl s s' h
theorem slots0_1_cover : Finset.univ.biUnion slotSet0_1 = Finset.univ :=
  Ring.lead_cover (s := S2x1x4000) (0 : Fin 3) 1 (fun s : Fin 2 => (![s.val, 0, 0] : Fin 3 → Nat)) S1x1x4000.size inb_slot0_1 (fun s => by simp)
    (fun s a ha => by fin_cases a <;> first | exact absurd rfl ha | rfl) rfl (fun a ha => by fin_cases a <;> first | exact absurd rfl ha | rfl) rfl

/-! ### What the launch hands the ring, and takes back -/

section InOut0_1
variable (c : Dev nD) (W : HbBuf0 (F := F) c hbM0_1)
theorem slotP0_1_eq (s : Fin 2) (f) : slotP0_1 (F := F) c s f = (((c : Thread nD τ).loc cc0_scratch1) ↦[slotSet0_1 s]{fullShare} f : sProp 𝕄) := by
  unfold slotP0_1; rw [slotSet0_1_eq]; rfl
/-- A slot's copy of the operand, whole, is block `b`'s elements and the rest (any `b`: what a run splits off before its step
    starts block `b`, and joins back once the wait returned it); -/
theorem src0_1_split (s : Fin 2) (b : Fin 125) : wholeP0_1 (F := F) c W s ⊣⊢ iprop(srcP0_1 c W s b ∗ restP0_1 c W s b) := by
  unfold restP0_1; exact pointsTo_split_subset (Finset.subset_univ _)
/-- the operand whole at the full share is the two copies. -/
theorem whole0_1_split : (hbPt0 c hbM0_1 W : sProp 𝕄) ⊣⊢ iprop(wholeP0_1 c W 0 ∗ wholeP0_1 c W 1) :=
  pointsTo_share (PosShare.mem_left_op_right fullShare)
set_option maxHeartbeats 1000000 in
/-- the scratch whole at anything is its slots at something each, and back. -/
theorem slots0_1_in : iprop(∃ d, owns (c : Thread nD τ) scM0_1 fullShare d) ⊢ (iprop((∃ f, slotP0_1 (F := F) c 0 f) ∗ ∃ f, slotP0_1 (F := F) c 1 f) : sProp 𝕄) := by
  simp only [scM0_1, owns_whole]
  exact Ring.slots2_split (U := Pipeline.UD sig nD τ) (ℓ := (c : Thread nD τ).loc cc0_scratch1) (q := fullShare) slotSet0_1 slots0_1_disjoint slots0_1_cover
    (slotP0_1 c 0) (slotP0_1 c 1) (slotP0_1_eq c 0) (slotP0_1_eq c 1)
set_option maxHeartbeats 1000000 in
theorem slots0_1_out : (iprop((∃ f, slotP0_1 (F := F) c 0 f) ∗ ∃ f, slotP0_1 (F := F) c 1 f) : sProp 𝕄) ⊢ iprop(∃ d, owns (c : Thread nD τ) scM0_1 fullShare d) := by
  simp only [scM0_1, owns_whole]
  exact Ring.slots2_join (U := Pipeline.UD sig nD τ) (ℓ := (c : Thread nD τ).loc cc0_scratch1) (q := fullShare) slotSet0_1 slots0_1_disjoint slots0_1_cover
    (slotP0_1 c 0) (slotP0_1 c 1) (slotP0_1_eq c 0) (slotP0_1_eq c 1)
end InOut0_1

/-- INTO THE RING: the launch's pieces — the scratch whole, the cells at zero, the operand whole — are the ring before its first step; -/
theorem ring0_1_in (c : Dev nD) :
    iprop((∃ d, owns (c : Thread nD τ) scM0_1 fullShare d) ∗ (semVal ((c : Thread nD τ), SemLoc.dma 3) 0 ∗ semVal ((c : Thread nD τ), SemLoc.dma 4) 0) ∗ hbPt0 c hbM0_1 (V m c main_v0))
      ⊢ ringAt0_1 c (V m c main_v0) 0 := by
  unfold ringAt0_1; rw [if_pos rfl]; unfold Ring.At₀
  rw [Ring.bigSep_fin2]
  simp only [Ring.free, cellP0_1_0, cellP0_1_1]
  iintro ⟨HS, Hc, HW⟩
  iapply Ring.with_homes₀
  icases Hc with ⟨H0, H1⟩
  ihave HS' := (slots0_1_in (F := F) c) $$ HS
  icases HS' with ⟨⟨%d0, HS0⟩, ⟨%d1, HS1⟩⟩
  ihave HW' := (whole0_1_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_1_out (c : Dev nD) :
    ringAt0_1 c (V m c main_v0) 125
      ⊢ iprop((∃ d, owns (c : Thread nD τ) scM0_1 fullShare d) ∗ (semVal ((c : Thread nD τ), SemLoc.dma 3) 0 ∗ semVal ((c : Thread nD τ), SemLoc.dma 4) 0) ∗ hbPt0 c hbM0_1 (V m c main_v0)) := by
  unfold ringAt0_1; rw [if_neg (by decide)]
  iintro H
  ihave H' := (Ring.free2_of_AtK_last _ _ _ _ _) $$ H
  simp only [Ring.free, cellP0_1_0, cellP0_1_1]
  icases H' with ⟨-, ⟨H0, ⟨%f0, HS0, HW0⟩⟩, ⟨H1, ⟨%f1, HS1, HW1⟩⟩⟩
  isplitl [HS0 HS1]
  · iapply (slots0_1_out (F := F) c); isplitl [HS0]; · iexists f0; iexact HS0
    iexists f1; iexact HS1
  isplitl [H0 H1]
  · isplitl [H0]; · iexact H0
    iexact H1
  · iapply (whole0_1_split (F := F) c (V m c main_v0)).2; isplitl [HW0]; · iexact HW0
    iexact HW1

/-! ### Ring 1's steps at each case's points, and its canonical names: the body's operands at point `t` are the ring's slots, blocks and cells -/

section Canon0_1
omit [FloatOps F]
/-- At the points of case A the ring takes its FIRST step. -/
theorem rstep0_1_A : ∀ t : Fin grid0.N, cond0_0 (grid0.coords t) → cond0_1 (grid0.coords t) → ¬cond0_2 (grid0.coords t) → t.val = 0 ∧ (t.val + 1) = 1 := by decide +kernel
/-- At the points of case B the ring takes a step, a block still to start. -/
theorem rstep0_1_B : ∀ t : Fin grid0.N, ¬cond0_0 (grid0.coords t) → cond0_1 (grid0.coords t) → ¬cond0_2 (grid0.coords t) → 1 ≤ t.val ∧ t.val + 1 < 125 ∧ (t.val + 1) = t.val + 1 := by decide +kernel
/-- At the points of case C the ring takes its LAST step. -/
theorem rstep0_1_C : ∀ t : Fin grid0.N, ¬cond0_0 (grid0.coords t) → ¬cond0_1 (grid0.coords t) → cond0_2 (grid0.coords t) → 1 ≤ t.val ∧ t.val + 1 = 125 ∧ (t.val + 1) = t.val + 1 := by decide +kernel
set_option synthInstance.maxSize 4096 in
theorem coff0_1_1 : ∀ t : Fin grid0.N, cond0_0 (grid0.coords t) → cond0_1 (grid0.coords t) → ¬cond0_2 (grid0.coords t) → (![0, 0, 0] : Fin 3 → Nat) = ![(Ring.sl 2 t.val).val, 0, 0] := by decide +kernel
@[sl_canon] theorem canon0_1_1 (t : Fin grid0.N) (h0 : cond0_0 (grid0.coords t)) (h1 : cond0_1 (grid0.coords t)) (h2 : ¬cond0_2 (grid0.coords t)) :
    (scM0_1.slice (Rect.unit (s := S2x1x4000) ![0, 0, 0] S1x1x4000.size inb_S2x1x4000_S1x1x4000_0_0_0) (fun _ => rfl)).squeeze S1x4000 squeezes_S1x1x4000_S1x4000 = rslot0_1 (Ring.sl 2 t.val) :=
  congrArg (fun M : Memref sig .tc .vmem S1x1x4000 .i32 => M.squeeze S1x4000 squeezes_S1x1x4000_S1x4000) (Memref.slice_unit_congr _ (coff0_1_1 t h0 h1 h2) _ _ (fun _ => rfl) (fun _ => rfl))
set_option synthInstance.maxSize 4096 in
theorem coff0_1_2 : ∀ t : Fin grid0.N, cond0_0 (grid0.coords t) → cond0_1 (grid0.coords t) → ¬cond0_2 (grid0.coords t) → (![0] : Fin 1 → Nat) = ![(Ring.sl 2 t.val).val] := by decide +kernel
@[sl_canon] theorem canon0_1_2 (t : Fin grid0.N) (h0 : cond0_0 (grid0.coords t)) (h1 : cond0_1 (grid0.coords t)) (h2 : ¬cond0_2 (grid0.coords t)) :
    (cc0_scratch4.slice (Rect.unit (s := S2) ![0] S1.size inb_S2_S1_0)).squeeze S_ squeezes_S1_S_ = cellA0_1 (Ring.sl 2 t.val) :=
  congrArg (fun A : DmaSems sig S1 => A.squeeze S_ squeezes_S1_S_) (SemArray.slice_unit_congr _ (coff0_1_2 t h0 h1 h2) _ _)
set_option synthInstance.maxSize 4096 in
theorem coff0_1_3 : ∀ t : Fin grid0.N, cond0_0 (grid0.coords t) → cond0_1 (grid0.coords t) → ¬cond0_2 (grid0.coords t) → (![0, 0, 0] : Fin 3 → Nat) = ![1 * (Ring.bk 125 t.val).val, 0, 0] := by decide +kernel
@[sl_canon] theorem canon0_1_3 (t : Fin grid0.N) (h0 : cond0_0 (grid0.coords t)) (h1 : cond0_1 (grid0.coords t)) (h2 : ¬cond0_2 (grid0.coords t)) :
    (hbM0_1.slice (Rect.unit (s := S125x1x4000) ![0, 0, 0] S1x1x4000.size inb_S125x1x4000_S1x1x4000_0_0_0) (fun _ => rfl)).squeeze S1x4000 squeezes_S1x1x4000_S1x4000 = srcB0_1 (Ring.bk 125 t.val) :=
  congrArg (fun M : Memref sig .tc .hbm S1x1x4000 .i32 => M.squeeze S1x4000 squeezes_S1x1x4000_S1x4000) (Memref.slice_unit_congr _ (coff0_1_3 t h0 h1 h2) _ _ (fun _ => rfl) (fun _ => rfl))
set_option synthInstance.maxSize 4096 in
theorem coff0_1_4 : ∀ t : Fin grid0.N, k0_off4 (grid0.coords t) = ![(Ring.sl 2 (t.val + 1)).val, 0, 0] := by decide +kernel
@[sl_canon] theorem canon0_1_4 (t : Fin grid0.N) (h1 : cond0_1 (grid0.coords t)) :
    (scM0_1.slice (Rect.unit (s := S2x1x4000) (k0_off4 (grid0.coords t)) S1x1x4000.size (k0_off4_inb (grid0.coords t) h1)) (fun _ => rfl)).squeeze S1x4000 squeezes_S1x1x4000_S1x4000 = rslot0_1 (Ring.sl 2 (t.val + 1)) :=
  congrArg (fun M : Memref sig .tc .vmem S1x1x4000 .i32 => M.squeeze S1x4000 squeezes_S1x1x4000_S1x4000) (Memref.slice_unit_congr _ (coff0_1_4 t ) _ _ (fun _ => rfl) (fun _ => rfl))
set_option synthInstance.maxSize 4096 in
theorem coff0_1_5 : ∀ t : Fin grid0.N, k0_off1 (grid0.coords t) = ![(Ring.sl 2 (t.val + 1)).val] := by decide +kernel
@[sl_canon] theorem canon0_1_5 (t : Fin grid0.N) (h1 : cond0_1 (grid0.coords t)) :
    (cc0_scratch4.slice (Rect.unit (s := S2) (k0_off1 (grid0.coords t)) S1.size (k0_off1_inb (grid0.coords t) h1))).squeeze S_ squeezes_S1_S_ = cellA0_1 (Ring.sl 2 (t.val + 1)) :=
  congrArg (fun A : DmaSems sig S1 => A.squeeze S_ squeezes_S1_S_) (SemArray.slice_unit_congr _ (coff0_1_5 t ) _ _)
set_option synthInstance.maxSize 4096 in
theorem coff0_1_6 : ∀ t : Fin grid0.N, cond0_0 (grid0.coords t) → cond0_1 (grid0.coords t) → ¬cond0_2 (grid0.coords t) → k0_off5 (grid0.coords t) = ![1 * (Ring.bk 125 (t.val + 1)).val, 0, 0] := by decide +kernel
@[sl_canon] theorem canon0_1_6 (t : Fin grid0.N) (h0 : cond0_0 (grid0.coords t)) (h1 : cond0_1 (grid0.coords t)) (h2 : ¬cond0_2 (grid0.coords t)) :
    (hbM0_1.slice (Rect.unit (s := S125x1x4000) (k0_off5 (grid0.coords t)) S1x1x4000.size (k0_off5_inb (grid0.coords t) h1)) (fun _ => rfl)).squeeze S1x4000 squeezes_S1x1x4000_S1x4000 = srcB0_1 (Ring.bk 125 (t.val + 1)) :=
  congrArg (fun M : Memref sig .tc .hbm S1x1x4000 .i32 => M.squeeze S1x4000 squeezes_S1x1x4000_S1x4000) (Memref.slice_unit_congr _ (coff0_1_6 t h0 h1 h2) _ _ (fun _ => rfl) (fun _ => rfl))
set_option synthInstance.maxSize 4096 in
theorem coff0_1_7 : ∀ t : Fin grid0.N, k0_off9 (grid0.coords t) = ![(Ring.sl 2 t.val).val, 0, 0] := by decide +kernel
@[sl_canon] theorem canon0_1_7 (t : Fin grid0.N) :
    (scM0_1.slice (Rect.unit (s := S2x1x4000) (k0_off9 (grid0.coords t)) S1x1x4000.size (k0_off9_inb (grid0.coords t))) (fun _ => rfl)).squeeze S1x4000 squeezes_S1x1x4000_S1x4000 = rslot0_1 (Ring.sl 2 t.val) :=
  congrArg (fun M : Memref sig .tc .vmem S1x1x4000 .i32 => M.squeeze S1x4000 squeezes_S1x1x4000_S1x4000) (Memref.slice_unit_congr _ (coff0_1_7 t ) _ _ (fun _ => rfl) (fun _ => rfl))
set_option synthInstance.maxSize 4096 in
theorem coff0_1_8 : ∀ t : Fin grid0.N, k0_off6 (grid0.coords t) = ![(Ring.sl 2 t.val).val] := by decide +kernel
@[sl_canon] theorem canon0_1_8 (t : Fin grid0.N) :
    (cc0_scratch4.slice (Rect.unit (s := S2) (k0_off6 (grid0.coords t)) S1.size (k0_off6_inb (grid0.coords t)))).squeeze S_ squeezes_S1_S_ = cellA0_1 (Ring.sl 2 t.val) :=
  congrArg (fun A : DmaSems sig S1 => A.squeeze S_ squeezes_S1_S_) (SemArray.slice_unit_congr _ (coff0_1_8 t ) _ _)
set_option synthInstance.maxSize 4096 in
theorem coff0_1_9 : ∀ t : Fin grid0.N, ¬cond0_0 (grid0.coords t) → cond0_1 (grid0.coords t) → ¬cond0_2 (grid0.coords t) → k0_off5 (grid0.coords t) = ![1 * (Ring.bk 125 (t.val + 1)).val, 0, 0] := by decide +kernel
@[sl_canon] theorem canon0_1_9 (t : Fin grid0.N) (h0 : ¬cond0_0 (grid0.coords t)) (h1 : cond0_1 (grid0.coords t)) (h2 : ¬cond0_2 (grid0.coords t)) :
    (hbM0_1.slice (Rect.unit (s := S125x1x4000) (k0_off5 (grid0.coords t)) S1x1x4000.size (k0_off5_inb (grid0.coords t) h1)) (fun _ => rfl)).squeeze S1x4000 squeezes_S1x1x4000_S1x4000 = srcB0_1 (Ring.bk 125 (t.val + 1)) :=
  congrArg (fun M : Memref sig .tc .hbm S1x1x4000 .i32 => M.squeeze S1x4000 squeezes_S1x1x4000_S1x4000) (Memref.slice_unit_congr _ (coff0_1_9 t h0 h1 h2) _ _ (fun _ => rfl) (fun _ => rfl))
set_option synthInstance.maxSize 4096 in
theorem coff0_1_10 : ∀ t : Fin grid0.N, k0_off12 (grid0.coords t) = ![(Ring.sl 2 t.val).val, 0, 0] := by decide +kernel
/-- The load's box of the block this step waited for, in the slot's spelling: it lies inside that slot. -/
instance (priority := high) closedOff0_1_10 (t : Fin grid0.N) : ClosedOff (k0_off12 (grid0.coords t)) := ⟨![(Ring.sl 2 t.val).val, 0, 0], coff0_1_10 t⟩
end Canon0_1

end Cert.KernelIdeal.Value

end
-- ==== Proof.IdealBlock.lean ====
/- One block's step of the idealized kernel, as a function of values: the block of logits and of labels a grid point reads,
   the three accumulator rows before and after the point, and the result the last point stores. -/
module

public import proofs.«01_k».proof.Proof.IdealRing
public import Idealize.ShloMosaic.Lib.Pointwise
public import Idealize.ShloMosaic.Lib.WritesUnit

@[expose] public section

set_option maxRecDepth 16384

noncomputable section

namespace Cert.KernelIdeal.Value

open Cert.KernelIdeal.Gen
open Idealize.ShloMosaic Idealize.ShloMosaic.TcCoe Idealize.ShloMosaic.Tactic

variable {F : FTy → Type} [FloatOps F] [Named F]

/-! ## The values -/

/-- Block `b` of the logits: rows `4000 b` to `4000 b + 3999`. -/
def logitsBlock (x : S500000x100.Idx → Elt F .f32) (b : Fin 125) : S1x4000x100.Idx → Elt F .f32 :=
  fun i => x (ix2 (⟨4000 * b.val + (i 1).val, by have := b.isLt; have : (i 1).val < 4000 := (i 1).isLt; omega⟩ : Fin 500000) (i 2 : Fin 100))

/-- Block `b` of the labels. -/
def labelsBlock (l : S125x1x4000.Idx → Elt F .i32) (b : Fin 125) : S1x1x4000.Idx → Elt F .i32 :=
  fun i => l (ix3 b (0 : Fin 1) (i 2 : Fin 4000))

/-- Row `r` of the accumulator. -/
def accRow (a : S3x15.Idx → Elt F .f32) (r : Fin 3) : S1x15.Idx → Elt F .f32 := fun i => a (ix2 r (i 1 : Fin 15))

/-- The accumulator of three rows. -/
def ofRows (r0 r1 r2 : S1x15.Idx → Elt F .f32) : S3x15.Idx → Elt F .f32 := fun i =>
  if (i 0).val = 0 then r0 (ix2 (0 : Fin 1) (i 1 : Fin 15))
  else if (i 0).val = 1 then r1 (ix2 (0 : Fin 1) (i 1 : Fin 15))
  else r2 (ix2 (0 : Fin 1) (i 1 : Fin 15))

/-- The accumulator after a point that reads the blocks `xb` and `lb`, from the accumulator before it: the counts, the
    confidences and the accuracies of the block's rows added to each bin. -/
def step (xb : S1x4000x100.Idx → Elt F .f32) (lb : S1x1x4000.Idx → Elt F .i32) (a : S3x15.Idx → Elt F .f32) : S3x15.Idx → Elt F .f32 :=
  ofRows (k0_pay11 (k0_pay5 xb) (k0_pay7 xb) (accRow a 0))
    (k0_pay1 (k0_pay12 (accRow a 1)) (k0_pay13 (k0_pay5 xb) (k0_pay7 xb)))
    (k0_pay2 (k0_pay9 (k0_pay5 xb) (k0_pay6 lb) (k0_pay7 xb)) (k0_pay10 (k0_pay5 xb) (k0_pay7 xb)) (accRow a 2))

/-- The result of an accumulator. -/
def result (a : S3x15.Idx → Elt F .f32) : S1x1.Idx → Elt F .f32 := k0_pay3 (accRow a 0) (accRow a 1) (accRow a 2)

/-- The accumulator after the first `n` blocks, started at zero. -/
def accAfter (x : S500000x100.Idx → Elt F .f32) (l : S125x1x4000.Idx → Elt F .i32) : ℕ → S3x15.Idx → Elt F .f32
  | 0 => k0_pay4
  | n + 1 => step (logitsBlock x (Ring.bk 125 n)) (labelsBlock l (Ring.bk 125 n)) (accAfter x l n)

/-! ## What the loads read -/

/-- A unit axis in front dropped, read at an index. -/
theorem shapeCast_logits {α : Type} (w : S1x4000x100.Idx → α) (p : Fin 4000) (q : Fin 100) :
    shapeCast S4000x100 w shapeCasts_S1x4000x100_S4000x100 (ix2 p q) = w (ix3 0 p q) := by pointwise []
/-- The same at the labels' shapes. -/
theorem shapeCast_labels {α : Type} (w : S1x1x4000.Idx → α) (q : Fin 4000) :
    shapeCast S1x4000 w shapeCasts_S1x1x4000_S1x4000 (ix2 0 q) = w (ix3 0 0 q) := by pointwise []

variable (c : Dev nD)

/-- A block of the logits, read off the operand. -/
theorem srcB0_0_read (b : Fin 125) (x : HbBuf0 (F := F) c hbM0_0) (p : Fin 4000) (q : Fin 100) :
    (srcB0_0 b).view.read (Elt F) x (ix2 p q) = logitsBlock x b (ix3 0 p q) := by
  show x _ = x _
  congr 1
  funext a
  refine Fin.ext ?_
  fin_cases a
  · show 4000 * b.val + 1 * p.val = _; rw [Nat.one_mul]; rfl
  · show 0 + 1 * q.val = _; rw [Nat.one_mul, Nat.zero_add]; rfl

/-- A slot read whole is the load of it with the leading unit axis dropped. -/
theorem rslot0_0_read (s : Fin 2) (g : HbBuf0 (F := F) c (rslot0_0 s)) :
    (rslot0_0 s).view.read (Elt F) g = shapeCast S4000x100 (View.readAt (Elt F) scM0_0.view
      (Rect.unit (s := S2x4000x100) ![s.val, 0, 0] S1x4000x100.size (inb_slot0_0 s)).toLoadRect g) shapeCasts_S1x4000x100_S4000x100 := rfl

/-- The load of a logits slot in which block `b` landed. -/
theorem load_logits (s : Fin 2) (b : Fin 125) (x : HbBuf0 (F := F) c hbM0_0) (f : HbBuf0 (F := F) c (rslot0_0 s)) (off : Fin 3 → ℕ)
    (inb : ∀ a, off a + S1x4000x100.size a ≤ S2x4000x100.size a) (hoff : off = ![s.val, 0, 0]) :
    View.readAt (Elt F) scM0_0.view (Rect.unit (s := S2x4000x100) off S1x4000x100.size inb).toLoadRect
      ((rslot0_0 s).view.writes (Elt F) f [⟨Rect.whole S4000x100, ReadAs.same.apply ((srcB0_0 b).view.read (Elt F) x)⟩]) = logitsBlock x b := by
  subst hoff
  have h := (rslot0_0_read c s _).symm.trans (View.read_writes_whole (rslot0_0 s).view f ((srcB0_0 b).view.read (Elt F) x))
  funext i
  obtain ⟨z, p, q, rfl⟩ : ∃ (z : Fin 1) (p : Fin 4000) (q : Fin 100), i = ix3 z p q := ⟨i 0, i 1, i 2, eq_ix3 i⟩
  obtain rfl : z = 0 := Subsingleton.elim _ _
  exact ((shapeCast_logits _ p q).symm.trans (congrFun h (ix2 p q))).trans (srcB0_0_read c b x p q)

/-- A block of the labels, read off the operand. -/
theorem srcB0_1_read (b : Fin 125) (l : HbBuf0 (F := F) c hbM0_1) (q : Fin 4000) :
    (srcB0_1 b).view.read (Elt F) l (ix2 (0 : Fin 1) q) = labelsBlock l b (ix3 0 0 q) := by
  have h : (srcB0_1 b).view.read (Elt F) l = shapeCast S1x4000 (View.readAt (Elt F) hbM0_1.view
      (Rect.unit (s := S125x1x4000) ![1 * b.val, 0, 0] S1x1x4000.size (inb_src0_1 b)).toLoadRect l) shapeCasts_S1x1x4000_S1x4000 := rfl
  rw [h]
  pointwise []
  show l _ = l _
  congr 1
  funext a
  refine Fin.ext ?_
  fin_cases a
  · show 1 * b.val + 1 * 0 = b.val; omega
  · rfl
  · show 0 + 1 * q.val = q.val; omega

/-- A slot read whole is the load of it with the leading unit axis dropped. -/
theorem rslot0_1_read (s : Fin 2) (g : HbBuf0 (F := F) c (rslot0_1 s)) :
    (rslot0_1 s).view.read (Elt F) g = shapeCast S1x4000 (View.readAt (Elt F) scM0_1.view
      (Rect.unit (s := S2x1x4000) ![s.val, 0, 0] S1x1x4000.size (inb_slot0_1 s)).toLoadRect g) shapeCasts_S1x1x4000_S1x4000 := rfl

/-- The load of a labels slot in which block `b` landed. -/
theorem load_labels (s : Fin 2) (b : Fin 125) (l : HbBuf0 (F := F) c hbM0_1) (f : HbBuf0 (F := F) c (rslot0_1 s)) (off : Fin 3 → ℕ)
    (inb : ∀ a, off a + S1x1x4000.size a ≤ S2x1x4000.size a) (hoff : off = ![s.val, 0, 0]) :
    View.readAt (Elt F) scM0_1.view (Rect.unit (s := S2x1x4000) off S1x1x4000.size inb).toLoadRect
      ((rslot0_1 s).view.writes (Elt F) f [⟨Rect.whole S1x4000, ReadAs.same.apply ((srcB0_1 b).view.read (Elt F) l)⟩]) = labelsBlock l b := by
  subst hoff
  have h := (rslot0_1_read c s _).symm.trans (View.read_writes_whole (rslot0_1 s).view f ((srcB0_1 b).view.read (Elt F) l))
  funext i
  obtain ⟨z, p, q, rfl⟩ : ∃ (z : Fin 1) (p : Fin 1) (q : Fin 4000), i = ix3 z p q := ⟨i 0, i 1, i 2, eq_ix3 i⟩
  obtain rfl : z = 0 := Subsingleton.elim _ _
  obtain rfl : p = 0 := Subsingleton.elim _ _
  exact ((shapeCast_labels _ q).symm.trans (congrFun h (ix2 0 q))).trans (srcB0_1_read c b l q)

/-! ## What the accumulator holds -/

/-- A row of the accumulator, loaded. -/
theorem load_row (arg6 : Memref sig .tc .vmem S3x15 .f32) (f : arg6.view.ty.Contents (Elt F)) (r : Fin 3)
    (size : Fin 2 → ℕ) (hs : size = ![1, 15]) (inb : ∀ a, (![r.val, 0] : Fin 2 → ℕ) a + size a ≤ S3x15.size a) (x : (Rect.unit (s := S3x15) ![r.val, 0] size inb).shape.Idx)
    (y : S1x15.Idx) (h : (x 1).val = (y 1).val) :
    View.readAt (Elt F) arg6.view (Rect.unit (s := S3x15) ![r.val, 0] size inb).toLoadRect f x = accRow (arg6.view.read (Elt F) f) r y := by
  subst hs
  show arg6.view.read (Elt F) f _ = arg6.view.read (Elt F) f _
  congr 1
  funext a
  refine Fin.ext ?_
  fin_cases a
  · show r.val + 1 * (x 0).val = r.val
    have : (x 0).val < 1 := (x 0).isLt
    omega
  · show 0 + 1 * (x 1).val = (y 1).val
    omega

/-- A row fits the accumulator. -/
theorem inb_row (r : Fin 3) : ∀ a, (![r.val, 0] : Fin 2 → ℕ) a + (![1, 15] : Fin 2 → ℕ) a ≤ S3x15.size a
  | 0 => by show r.val + 1 ≤ 3; omega
  | 1 => Nat.le_refl 15

/-- The same as a whole row. -/
theorem row_load (arg6 : Memref sig .tc .vmem S3x15 .f32) (f : arg6.view.ty.Contents (Elt F)) (r : Fin 3) :
    View.readAt (Elt F) arg6.view (Rect.unit (s := S3x15) ![r.val, 0] ![1, 15] (inb_row r)).toLoadRect f = accRow (arg6.view.read (Elt F) f) r :=
  funext fun y => load_row arg6 f r _ rfl (inb_row r) y y rfl

/-- Three rows stored, read back. -/
theorem read_rows (arg6 : Memref sig .tc .vmem S3x15 .f32) (f : arg6.view.ty.Contents (Elt F)) (L : List (View.Piece (Elt F) S3x15 .f32))
    (inb0 : ∀ a, (![0, 0] : Fin 2 → ℕ) a + (![1, 15] : Fin 2 → ℕ) a ≤ S3x15.size a)
    (inb1 : ∀ a, (![1, 0] : Fin 2 → ℕ) a + (![1, 15] : Fin 2 → ℕ) a ≤ S3x15.size a)
    (inb2 : ∀ a, (![2, 0] : Fin 2 → ℕ) a + (![1, 15] : Fin 2 → ℕ) a ≤ S3x15.size a)
    (r0 r1 r2 : S1x15.Idx → Elt F .f32) :
    arg6.view.read (Elt F) (arg6.view.writes (Elt F) f
      (⟨Rect.unit (s := S3x15) ![2, 0] ![1, 15] inb2, r2⟩ :: ⟨Rect.unit (s := S3x15) ![1, 0] ![1, 15] inb1, r1⟩ ::
        ⟨Rect.unit (s := S3x15) ![0, 0] ![1, 15] inb0, r0⟩ :: L)) = ofRows r0 r1 r2 := by
  funext y
  unfold ofRows
  have hy : (y 0).val < 3 := (y 0).isLt
  by_cases h0 : (y 0).val = 0
  · rw [if_pos h0, View.read_writes_cons_rows_of_not_mem (W := 1) _ _ inb2 _ _ y rfl rfl (by omega),
      View.read_writes_cons_rows_of_not_mem (W := 1) _ _ inb1 _ _ y rfl rfl (by omega)]
    exact View.read_writes_cons_rows_of_mem _ _ inb0 _ _ y _ rfl (by rw [h0]; rfl) rfl
  · rw [if_neg h0]
    by_cases h1 : (y 0).val = 1
    · rw [if_pos h1, View.read_writes_cons_rows_of_not_mem (W := 1) _ _ inb2 _ _ y rfl rfl (by omega)]
      exact View.read_writes_cons_rows_of_mem _ _ inb1 _ _ y _ rfl (by rw [h1]; rfl) rfl
    · rw [if_neg h1]
      exact View.read_writes_cons_rows_of_mem _ _ inb2 _ _ y _ rfl (by show (y 0).val = 2 + 0; omega) rfl

/-- A row passed over by a later row's store. -/
theorem accRow_store_ne (arg6 : Memref sig .tc .vmem S3x15 .f32) (f : arg6.view.ty.Contents (Elt F)) (L : List (View.Piece (Elt F) S3x15 .f32))
    (r s : Fin 3) (h : r ≠ s) (inb : ∀ a, (![s.val, 0] : Fin 2 → ℕ) a + (![1, 15] : Fin 2 → ℕ) a ≤ S3x15.size a) (w : S1x15.Idx → Elt F .f32) :
    accRow (arg6.view.read (Elt F) (arg6.view.writes (Elt F) f (⟨Rect.unit (s := S3x15) ![s.val, 0] ![1, 15] inb, w⟩ :: L))) r
      = accRow (arg6.view.read (Elt F) (arg6.view.writes (Elt F) f L)) r := by
  funext y
  have h' : r.val ≠ s.val := fun e => h (Fin.ext e)
  exact View.read_writes_cons_rows_of_not_mem (W := 1) _ _ inb _ _ _ rfl rfl (by show r.val < s.val ∨ s.val + 1 ≤ r.val; omega)

/-- The whole accumulator stored, read back. -/
theorem read_stored (arg6 : Memref sig .tc .vmem S3x15 .f32) (f : arg6.view.ty.Contents (Elt F))
    (inb : ∀ a, (![0, 0] : Fin 2 → ℕ) a + S3x15.size a ≤ S3x15.size a) (w : S3x15.Idx → Elt F .f32) :
    arg6.view.read (Elt F) (arg6.view.writes (Elt F) f [⟨Rect.unit (s := S3x15) ![0, 0] S3x15.size inb, w⟩]) = w := by
  funext y
  have hy : (y 0).val < 3 := (y 0).isLt
  exact View.read_writes_cons_rows_of_mem _ _ inb _ _ y y rfl (by omega) rfl

/-- The staged result stored, read back. -/
theorem read_result (arg3 : Memref sig .tc .vmem S1x1 .f32) (f : arg3.view.ty.Contents (Elt F))
    (inb : ∀ a, (![0, 0] : Fin 2 → ℕ) a + (![1, 1] : Fin 2 → ℕ) a ≤ S1x1.size a) (w : S1x1.Idx → Elt F .f32) :
    arg3.view.read (Elt F) (arg3.view.writes (Elt F) f [⟨Rect.unit (s := S1x1) ![0, 0] ![1, 1] inb, w⟩]) = w := by
  funext y
  have hy : (y 0).val < 1 := (y 0).isLt
  exact View.read_writes_cons_rows_of_mem _ _ inb _ _ y y rfl (by omega) rfl

/-- An index of a row is its column. -/
theorem idx_row (y : S1x15.Idx) : ix2 (0 : Fin 1) (y 1 : Fin 15) = y := by
  have h : y 0 = (0 : Fin 1) := Subsingleton.elim (α := Fin 1) _ _
  funext a
  fin_cases a
  · exact h.symm
  · rfl

/-- The rows of three rows. -/
theorem accRow_ofRows_0 (r0 r1 r2 : S1x15.Idx → Elt F .f32) : accRow (ofRows r0 r1 r2) 0 = r0 :=
  funext fun y => congrArg r0 (idx_row y)
theorem accRow_ofRows_1 (r0 r1 r2 : S1x15.Idx → Elt F .f32) : accRow (ofRows r0 r1 r2) 1 = r1 :=
  funext fun y => congrArg r1 (idx_row y)
theorem accRow_ofRows_2 (r0 r1 r2 : S1x15.Idx → Elt F .f32) : accRow (ofRows r0 r1 r2) 2 = r2 :=
  funext fun y => congrArg r2 (idx_row y)

/-- The result of the rows loaded from an accumulator the stores determine. -/
theorem result_load (arg6 : Memref sig .tc .vmem S3x15 .f32) (L : List (View.Piece (Elt F) S3x15 .f32)) (a : S3x15.Idx → Elt F .f32)
    (h : ∀ f, arg6.view.read (Elt F) (arg6.view.writes (Elt F) f L) = a) :
    k0_pay3 (arg6.view.readCov L (Rect.unit (s := S3x15) ![0, 0] ![1, 15] (inb_row 0)).toLoadRect)
      (arg6.view.readCov L (Rect.unit (s := S3x15) ![1, 0] ![1, 15] (inb_row 1)).toLoadRect)
      (arg6.view.readCov L (Rect.unit (s := S3x15) ![2, 0] ![1, 15] (inb_row 2)).toLoadRect) = result a := by
  rw [← h arg6.view.junk]
  exact congr (congr (congrArg k0_pay3 (row_load arg6 _ 0)) (row_load arg6 _ 1)) (row_load arg6 _ 2)

end Cert.KernelIdeal.Value

end
-- ==== Proof.IdealRunA.lean ====
/- The idealized kernel's body run at the first point. -/
module

public import proofs.«01_k».proof.Proof.IdealBlock

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
/-- The body at the first point: the accumulator is zeroed, then takes the first block. -/
theorem kernelRun0_A (c : Dev nD) (t : Fin cfg0.N) (arg3 : Memref sig .tc .vmem S1x1 .f32) (harg3 : arg3.IsWhole) (arg6 : Memref sig .tc .vmem S3x15 .f32) (harg6 : arg6.IsWhole) (hc0 : cond0_0 (grid0.coords t)) (hc1 : cond0_1 (grid0.coords t)) (hc2 : ¬cond0_2 (grid0.coords t))
     (fh0 : HbBuf0 (F := F) c hbM0_0) (fh1 : HbBuf0 (F := F) c hbM0_1) (d0 : S1x1.Idx → Elt F .f32) :
      ∀ (W : Waits sig Unit) (K : PUnit → sProp 𝕄),
        iprop(owns (c : Thread nD τ) arg3 fullShare d0 ∗ (∃ d, owns (c : Thread nD τ) arg6 fullShare d) ∗ Ring.free (cellP0_0 c) (slotW0_0 c fh0) (Ring.sl 2 t.val) ∗ Ring.free (cellP0_0 c) (slotW0_0 c fh0) (Ring.sl 2 (t.val + 1)) ∗ Ring.free (cellP0_1 c) (slotW0_1 c fh1) (Ring.sl 2 t.val) ∗ Ring.free (cellP0_1 c) (slotW0_1 c fh1) (Ring.sl 2 (t.val + 1)) ∗ owes (c : Thread nD τ) 0 W
            ∗ (iprop(owns (c : Thread nD τ) arg3 fullShare d0 ∗ owns (c : Thread nD τ) arg6 fullShare (step (logitsBlock fh0 (Ring.bk 125 t.val)) (labelsBlock fh1 (Ring.bk 125 t.val)) k0_pay4) ∗ Ring.inflight (flightW0_0 c fh0) (Ring.sl 2 (t.val + 1)) (Ring.bk 125 (t.val + 1)) ∗ Ring.kept (cellP0_0 c) (slotW0_0 c fh0) (landed0_0 c fh0) (Ring.sl 2 t.val) (Ring.bk 125 t.val) ∗ Ring.inflight (flightW0_1 c fh1) (Ring.sl 2 (t.val + 1)) (Ring.bk 125 (t.val + 1)) ∗ Ring.kept (cellP0_1 c) (slotW0_1 c fh1) (landed0_1 c fh1) (Ring.sl 2 t.val) (Ring.bk 125 t.val) ∗ (∃ W', owes (c : Thread nD τ) 0 W')) -∗ K ⟨⟩))
          ⊢ wp frame (wpE (defs₀ (F := F)) Variants.none c none) Set.univ (cc0__ece_kernel (grid0.coords t) (Memref.whole main_arg0) (Memref.isWhole_whole _) (Memref.whole main_v0) (Memref.isWhole_whole _) arg3 harg3 scM0_0 (Memref.isWhole_whole _) scM0_1 (Memref.isWhole_whole _) arg6 harg6 cc0_scratch3 cc0_scratch4) K := by
    intro W K
    haveI : Fact (cond0_0 (grid0.coords t)) := ⟨hc0⟩
    haveI : Fact (cond0_1 (grid0.coords t)) := ⟨hc1⟩
    haveI : Fact (¬cond0_2 (grid0.coords t)) := ⟨hc2⟩
    simp only [cc0__ece_kernel_eq_skeleton]; unfold cc0__ece_kernel_skel
    simp only [k0_part1_eq_skeleton, k0_part2_eq_skeleton]
    have hcanon0 := canon0_0_1 t hc0 hc1 hc2
    have hcanon1 := canon0_0_2 t hc0 hc1 hc2
    have hcanon2 := canon0_0_3 t hc0 hc1 hc2
    have hcanon3 := canon0_1_1 t hc0 hc1 hc2
    have hcanon4 := canon0_1_2 t hc0 hc1 hc2
    have hcanon5 := canon0_1_3 t hc0 hc1 hc2
    unfold owns Ring.free Ring.inflight Ring.kept
    iintro ⟨⟨%f0, %hf0, H0⟩, ⟨%ds2, %fs2, -, HS2⟩, ⟨Hc0_0_0, ⟨%fs0_0_0, Hs0_0_0, Hw0_0_0⟩⟩, ⟨Hc0_0_1, ⟨%fs0_0_1, Hs0_0_1, Hw0_0_1⟩⟩, ⟨Hc0_1_0, ⟨%fs0_1_0, Hs0_1_0, Hw0_1_0⟩⟩, ⟨Hc0_1_1, ⟨%fs0_1_1, Hs0_1_1, Hw0_1_1⟩⟩, HW, Hk⟩
    ihave Hsp0_0_0 := (src0_0_split c fh0 (Ring.sl 2 t.val) (Ring.bk 125 t.val)).1 $$ Hw0_0_0
    icases Hsp0_0_0 with ⟨Hh0_0_0, Hr0_0_0⟩
    ihave Hsp0_0_1 := (src0_0_split c fh0 (Ring.sl 2 (t.val + 1)) (Ring.bk 125 (t.val + 1))).1 $$ Hw0_0_1
    icases Hsp0_0_1 with ⟨Hh0_0_1, Hr0_0_1⟩
    ihave Hsp0_1_0 := (src0_1_split c fh1 (Ring.sl 2 t.val) (Ring.bk 125 t.val)).1 $$ Hw0_1_0
    icases Hsp0_1_0 with ⟨Hh0_1_0, Hr0_1_0⟩
    ihave Hsp0_1_1 := (src0_1_split c fh1 (Ring.sl 2 (t.val + 1)) (Ring.bk 125 (t.val + 1))).1 $$ Hw0_1_1
    icases Hsp0_1_1 with ⟨Hh0_1_1, Hr0_1_1⟩
    sl_exec (disch := first | sl_exact hc0 | sl_exact hc1 | sl_exact hc2)
    sl_step
    iapply Hk
    isplitl [H0]
    · iexists _; isplitr; swap; · iexact H0
      ipureintro
      exact hf0
    isplitl [HS2]
    · iexists _; isplitr; swap; · iexact HS2
      ipureintro
      have h23 : kernelRun0_A.sl.v23 c t fh0 = logitsBlock fh0 (Ring.bk 125 t.val) := load_logits c (Ring.sl 2 t.val) (Ring.bk 125 t.val) fh0 _ _ _ (coff0_0_10 t)
      have h26 : kernelRun0_A.sl.v26 c t fh1 = labelsBlock fh1 (Ring.bk 125 t.val) := load_labels c (Ring.sl 2 t.val) (Ring.bk 125 t.val) fh1 _ _ _ (coff0_1_10 t)
      unfold kernelRun0_A.sl.HS2_3 kernelRun0_A.sl.r_3 kernelRun0_A.sl.r_4 kernelRun0_A.sl.v83 kernelRun0_A.sl.r_5 kernelRun0_A.sl.r_6 kernelRun0_A.sl.HS2_2 kernelRun0_A.sl.r kernelRun0_A.sl.r_1 kernelRun0_A.sl.r_2 kernelRun0_A.sl.v74 kernelRun0_A.sl.v67
      rw [h23, h26]
      refine (read_rows arg6 _ _ _ _ _ _ _ _).trans ?_
      have z : ∀ f, arg6.view.read (Elt F) (arg6.view.writes (Elt F) f (kernelRun0_A.sl.HS2_1 (F := F))) = k0_pay4 := fun f => read_stored arg6 f _ _
      exact congr (congr (congrArg ofRows (congrArg (k0_pay11 _ _) ((row_load arg6 _ 0).trans (congrArg (accRow · 0) (z _)))))
        (congrArg (fun r => k0_pay1 (k0_pay12 r) _) ((row_load arg6 _ 1).trans ((accRow_store_ne arg6 _ _ 1 0 (by decide) (inb_row 0) _).trans (congrArg (accRow · 1) (z _))))))
        (congrArg (k0_pay2 _ _) ((row_load arg6 _ 2).trans ((accRow_store_ne arg6 _ _ 2 1 (by decide) (inb_row 1) _).trans
          ((accRow_store_ne arg6 _ _ 2 0 (by decide) (inb_row 0) _).trans (congrArg (accRow · 2) (z _))))))
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 125 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 2 t.val) (Ring.bk 125 t.val)).2; isplitl [Hh0_1_0]; · iexact Hh0_1_0
      iexact Hr0_1_0
    iexists _; iexact HW

end Cert.KernelIdeal.Value

end
-- ==== Proof.IdealRunB.lean ====
/- The idealized kernel's body run at a point strictly between the first and the last. -/
module

public import proofs.«01_k».proof.Proof.IdealRunA

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
/-- The body at a point strictly between the first and the last: the accumulator takes the point's block, the staged result is left alone. -/
theorem kernelRun0_B (c : Dev nD) (t : Fin cfg0.N) (arg3 : Memref sig .tc .vmem S1x1 .f32) (harg3 : arg3.IsWhole) (arg6 : Memref sig .tc .vmem S3x15 .f32) (harg6 : arg6.IsWhole) (hc0 : ¬cond0_0 (grid0.coords t)) (hc1 : cond0_1 (grid0.coords t)) (hc2 : ¬cond0_2 (grid0.coords t))
     (fh0 : HbBuf0 (F := F) c hbM0_0) (fh1 : HbBuf0 (F := F) c hbM0_1) (d0 : S1x1.Idx → Elt F .f32) (a : S3x15.Idx → Elt F .f32) :
      ∀ (W : Waits sig Unit) (K : PUnit → sProp 𝕄),
        iprop(owns (c : Thread nD τ) arg3 fullShare d0 ∗ owns (c : Thread nD τ) arg6 fullShare a ∗ Ring.inflight (flightW0_0 c fh0) (Ring.sl 2 t.val) (Ring.bk 125 t.val) ∗ Ring.kept (cellP0_0 c) (slotW0_0 c fh0) (landed0_0 c fh0) (Ring.sl 2 (t.val + 1)) (Ring.bk 125 (t.val - 1)) ∗ Ring.inflight (flightW0_1 c fh1) (Ring.sl 2 t.val) (Ring.bk 125 t.val) ∗ Ring.kept (cellP0_1 c) (slotW0_1 c fh1) (landed0_1 c fh1) (Ring.sl 2 (t.val + 1)) (Ring.bk 125 (t.val - 1)) ∗ owes (c : Thread nD τ) 0 W
            ∗ (iprop(owns (c : Thread nD τ) arg3 fullShare d0 ∗ owns (c : Thread nD τ) arg6 fullShare (step (logitsBlock fh0 (Ring.bk 125 t.val)) (labelsBlock fh1 (Ring.bk 125 t.val)) a) ∗ Ring.inflight (flightW0_0 c fh0) (Ring.sl 2 (t.val + 1)) (Ring.bk 125 (t.val + 1)) ∗ Ring.kept (cellP0_0 c) (slotW0_0 c fh0) (landed0_0 c fh0) (Ring.sl 2 t.val) (Ring.bk 125 t.val) ∗ Ring.inflight (flightW0_1 c fh1) (Ring.sl 2 (t.val + 1)) (Ring.bk 125 (t.val + 1)) ∗ Ring.kept (cellP0_1 c) (slotW0_1 c fh1) (landed0_1 c fh1) (Ring.sl 2 t.val) (Ring.bk 125 t.val) ∗ (∃ W', owes (c : Thread nD τ) 0 W')) -∗ K ⟨⟩))
          ⊢ wp frame (wpE (defs₀ (F := F)) Variants.none c none) Set.univ (cc0__ece_kernel (grid0.coords t) (Memref.whole main_arg0) (Memref.isWhole_whole _) (Memref.whole main_v0) (Memref.isWhole_whole _) arg3 harg3 scM0_0 (Memref.isWhole_whole _) scM0_1 (Memref.isWhole_whole _) arg6 harg6 cc0_scratch3 cc0_scratch4) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    simp only [cc0__ece_kernel_eq_skeleton]; unfold cc0__ece_kernel_skel
    simp only [k0_part1_eq_skeleton, k0_part2_eq_skeleton]
    unfold owns Ring.inflight Ring.kept
    iintro ⟨⟨%f0, %hf0, H0⟩, ⟨%fs2, %hfs2, HS2⟩, ⟨%ff0_0, Hf0_0, Hrf0_0⟩, ⟨Hc0_0_1, ⟨%fs0_0_1, Hs0_0_1, Hw0_0_1⟩⟩, ⟨%ff0_1, Hf0_1, Hrf0_1⟩, ⟨Hc0_1_1, ⟨%fs0_1_1, Hs0_1_1, Hw0_1_1⟩⟩, HW, Hk⟩
    ihave Hsp0_0_1 := (src0_0_split c fh0 (Ring.sl 2 (t.val + 1)) (Ring.bk 125 (t.val + 1))).1 $$ Hw0_0_1
    icases Hsp0_0_1 with ⟨Hh0_0_1, Hr0_0_1⟩
    ihave Hsp0_1_1 := (src0_1_split c fh1 (Ring.sl 2 (t.val + 1)) (Ring.bk 125 (t.val + 1))).1 $$ Hw0_1_1
    icases Hsp0_1_1 with ⟨Hh0_1_1, Hr0_1_1⟩
    sl_exec (disch := first | sl_exact hc0 | sl_exact hc1 | sl_exact hc2)
    sl_step
    iapply Hk
    isplitl [H0]
    · iexists _; isplitr; swap; · iexact H0
      ipureintro
      exact hf0
    isplitl [HS2]
    · iexists _; isplitr; swap; · iexact HS2
      ipureintro
      subst hfs2
      have h23 : kernelRun0_B.sl.v23 c t fh0 = logitsBlock fh0 (Ring.bk 125 t.val) := load_logits c (Ring.sl 2 t.val) (Ring.bk 125 t.val) fh0 _ _ _ (coff0_0_10 t)
      have h26 : kernelRun0_B.sl.v26 c t fh1 = labelsBlock fh1 (Ring.bk 125 t.val) := load_labels c (Ring.sl 2 t.val) (Ring.bk 125 t.val) fh1 _ _ _ (coff0_1_10 t)
      unfold kernelRun0_B.sl.r_3 kernelRun0_B.sl.r_4 kernelRun0_B.sl.v83 kernelRun0_B.sl.r_5 kernelRun0_B.sl.r_6 kernelRun0_B.sl.r kernelRun0_B.sl.r_1 kernelRun0_B.sl.r_2 kernelRun0_B.sl.v74
      rw [h23, h26]
      refine (read_rows arg6 _ _ _ _ _ _ _ _).trans ?_
      exact congr (congr (congrArg ofRows (congrArg (k0_pay11 _ _) (row_load arg6 fs2 0)))
        (congrArg (fun r => k0_pay1 (k0_pay12 r) _) (row_load arg6 fs2 1))) (congrArg (k0_pay2 _ _) (row_load arg6 fs2 2))
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 125 t.val)).2; isplitl [Hf0_0_src]; · iexact Hf0_0_src
      iexact Hrf0_0
    isplitl [Hc0_1_1 Hr0_1_1]
    · iexists _; isplitl [Hc0_1_1]; · iexact Hc0_1_1
      iexact Hr0_1_1
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 125 t.val)).2; isplitl [Hf0_1_src]; · iexact Hf0_1_src
      iexact Hrf0_1
    iexists _; iexact HW

end Cert.KernelIdeal.Value

end
-- ==== Proof.IdealRunC.lean ====
/- The idealized kernel's body run at the last point. -/
module

public import proofs.«01_k».proof.Proof.IdealRunB

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
/-- The body at the last point: the accumulator takes the last block and the result is stored. -/
theorem kernelRun0_C (c : Dev nD) (t : Fin cfg0.N) (arg3 : Memref sig .tc .vmem S1x1 .f32) (harg3 : arg3.IsWhole) (arg6 : Memref sig .tc .vmem S3x15 .f32) (harg6 : arg6.IsWhole) (hc0 : ¬cond0_0 (grid0.coords t)) (hc1 : ¬cond0_1 (grid0.coords t)) (hc2 : cond0_2 (grid0.coords t))
     (fh0 : HbBuf0 (F := F) c hbM0_0) (fh1 : HbBuf0 (F := F) c hbM0_1) (d0 : S1x1.Idx → Elt F .f32) (a : S3x15.Idx → Elt F .f32) :
      ∀ (W : Waits sig Unit) (K : PUnit → sProp 𝕄),
        iprop(owns (c : Thread nD τ) arg3 fullShare d0 ∗ owns (c : Thread nD τ) arg6 fullShare a ∗ Ring.inflight (flightW0_0 c fh0) (Ring.sl 2 t.val) (Ring.bk 125 t.val) ∗ Ring.inflight (flightW0_1 c fh1) (Ring.sl 2 t.val) (Ring.bk 125 t.val) ∗ owes (c : Thread nD τ) 0 W
            ∗ (iprop(owns (c : Thread nD τ) arg3 fullShare (result (step (logitsBlock fh0 (Ring.bk 125 t.val)) (labelsBlock fh1 (Ring.bk 125 t.val)) a)) ∗ owns (c : Thread nD τ) arg6 fullShare (step (logitsBlock fh0 (Ring.bk 125 t.val)) (labelsBlock fh1 (Ring.bk 125 t.val)) a) ∗ Ring.kept (cellP0_0 c) (slotW0_0 c fh0) (landed0_0 c fh0) (Ring.sl 2 t.val) (Ring.bk 125 t.val) ∗ Ring.kept (cellP0_1 c) (slotW0_1 c fh1) (landed0_1 c fh1) (Ring.sl 2 t.val) (Ring.bk 125 t.val) ∗ (∃ W', owes (c : Thread nD τ) 0 W')) -∗ K ⟨⟩))
          ⊢ wp frame (wpE (defs₀ (F := F)) Variants.none c none) Set.univ (cc0__ece_kernel (grid0.coords t) (Memref.whole main_arg0) (Memref.isWhole_whole _) (Memref.whole main_v0) (Memref.isWhole_whole _) arg3 harg3 scM0_0 (Memref.isWhole_whole _) scM0_1 (Memref.isWhole_whole _) arg6 harg6 cc0_scratch3 cc0_scratch4) K := by
    intro W K
    haveI : Fact (¬cond0_0 (grid0.coords t)) := ⟨hc0⟩
    haveI : Fact (¬cond0_1 (grid0.coords t)) := ⟨hc1⟩
    haveI : Fact (cond0_2 (grid0.coords t)) := ⟨hc2⟩
    simp only [cc0__ece_kernel_eq_skeleton]; unfold cc0__ece_kernel_skel
    simp only [k0_part1_eq_skeleton, k0_part2_eq_skeleton]
    unfold owns Ring.inflight Ring.kept
    iintro ⟨⟨%f0, %hf0, H0⟩, ⟨%fs2, %hfs2, HS2⟩, ⟨%ff0_0, Hf0_0, Hrf0_0⟩, ⟨%ff0_1, Hf0_1, Hrf0_1⟩, HW, Hk⟩
    sl_exec (disch := first | sl_exact hc0 | sl_exact hc1 | sl_exact hc2)
    sl_step
    iapply Hk
    isplitl [H0]
    · iexists _; isplitr; swap; · iexact H0
      ipureintro
      refine (read_result arg3 f0 _ _).trans ?_
      subst hfs2
      have h23 : kernelRun0_C.sl.v23 c t fh0 = logitsBlock fh0 (Ring.bk 125 t.val) := load_logits c (Ring.sl 2 t.val) (Ring.bk 125 t.val) fh0 _ _ _ (coff0_0_10 t)
      have h26 : kernelRun0_C.sl.v26 c t fh1 = labelsBlock fh1 (Ring.bk 125 t.val) := load_labels c (Ring.sl 2 t.val) (Ring.bk 125 t.val) fh1 _ _ _ (coff0_1_10 t)
      unfold kernelRun0_C.sl.v95 kernelRun0_C.sl.v99 kernelRun0_C.sl.v102
      refine result_load arg6 _ _ fun f => ?_
      unfold kernelRun0_C.sl.HS2_3 kernelRun0_C.sl.r_3 kernelRun0_C.sl.r_4 kernelRun0_C.sl.v83 kernelRun0_C.sl.r_5 kernelRun0_C.sl.r_6 kernelRun0_C.sl.r kernelRun0_C.sl.r_1 kernelRun0_C.sl.r_2 kernelRun0_C.sl.v74
      rw [h23, h26]
      refine (read_rows arg6 _ _ _ _ _ _ _ _).trans ?_
      exact congr (congr (congrArg ofRows (congrArg (k0_pay11 _ _) (row_load arg6 fs2 0)))
        (congrArg (fun r => k0_pay1 (k0_pay12 r) _) (row_load arg6 fs2 1))) (congrArg (k0_pay2 _ _) (row_load arg6 fs2 2))
    isplitl [HS2]
    · iexists _; isplitr; swap; · iexact HS2
      ipureintro
      subst hfs2
      have h23 : kernelRun0_C.sl.v23 c t fh0 = logitsBlock fh0 (Ring.bk 125 t.val) := load_logits c (Ring.sl 2 t.val) (Ring.bk 125 t.val) fh0 _ _ _ (coff0_0_10 t)
      have h26 : kernelRun0_C.sl.v26 c t fh1 = labelsBlock fh1 (Ring.bk 125 t.val) := load_labels c (Ring.sl 2 t.val) (Ring.bk 125 t.val) fh1 _ _ _ (coff0_1_10 t)
      unfold kernelRun0_C.sl.HS2_3 kernelRun0_C.sl.r_3 kernelRun0_C.sl.r_4 kernelRun0_C.sl.v83 kernelRun0_C.sl.r_5 kernelRun0_C.sl.r_6 kernelRun0_C.sl.r kernelRun0_C.sl.r_1 kernelRun0_C.sl.r_2 kernelRun0_C.sl.v74
      rw [h23, h26]
      refine (read_rows arg6 _ _ _ _ _ _ _ _).trans ?_
      exact congr (congr (congrArg ofRows (congrArg (k0_pay11 _ _) (row_load arg6 fs2 0)))
        (congrArg (fun r => k0_pay1 (k0_pay12 r) _) (row_load arg6 fs2 1))) (congrArg (k0_pay2 _ _) (row_load arg6 fs2 2))
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 125 t.val)).2; isplitl [Hf0_0_src]; · iexact Hf0_0_src
      iexact Hrf0_0
    isplitl [Hf0_1 Hf0_1_dst Hf0_1_src Hrf0_1]
    · isplitl [Hf0_1]; · iexact Hf0_1
      iexists _; isplitl [Hf0_1_dst]; · iexact Hf0_1_dst
      iapply (src0_1_split c fh1 (Ring.sl 2 t.val) (Ring.bk 125 t.val)).2; isplitl [Hf0_1_src]; · iexact Hf0_1_src
      iexact Hrf0_1
    iexists _; iexact HW

end Cert.KernelIdeal.Value

end
-- ==== Proof.IdealFrame.lean ====
/- The idealized kernel's launch: what the accumulator holds before each point, the body at every point, and the run, which
   ends with the result of the accumulator after all 125 blocks in the kernel's output. -/
module

public import proofs.«01_k».proof.Proof.IdealRunC
public import Idealize.ShloMosaic.Lib.Pipeline.ValueKit
public import Idealize.ShloMosaic.Lib.Claim

@[expose] public section

set_option maxRecDepth 16384

noncomputable section

namespace Cert.KernelIdeal.Value

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What holds before and after each point -/

/-- What the accumulator holds before point `k`: anything before the first, then what the blocks so far add up to. -/
def accAt (c : Dev nD) (k : ℕ) : sProp 𝕄 :=
  if k = 0 then iprop(∃ d, owns (c : Thread nD τ) scM0_2 fullShare d)
  else owns (c : Thread nD τ) scM0_2 fullShare (accAfter (V m c main_arg0) (V m c main_v0) k)

/-- The region's invariant before point `k`: the accumulator, the generator register at some state, each ring. -/
def PhiR (c : Dev nD) (k : ℕ) : sProp 𝕄 :=
  iprop(accAt m c k ∗ (∃ r, prngReg c r) ∗ ringAt0_0 c (V m c main_arg0) k ∗ ringAt0_1 c (V m c main_v0) k)

/-- What the launch is told of each point: the arrays as the region finds them, the staged result after a point, the invariant, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => result (accAfter (V m c main_arg0) (V m c main_v0) (t.val + 1))
  Φ t := PhiR m c t.val
  q _ := fullShare
  owed _ := 0

/-- The arrays are the region-entry contents. -/
theorem A_eq (c : Dev nD) (w : Fin cfg0.W) : (dats m 0 c).A w = V m c (Pipeline.arrRef spec0 w) := by
  dsimp only [dats]

/-- The staged result after a point. -/
theorem after_eq (c : Dev nD) (t : Fin cfg0.N) :
    (dats m 0 c).after 0 t = result (accAfter (V m c main_arg0) (V m c main_v0) (t.val + 1)) := by
  dsimp only [dats]

/-- The invariant at a point's start, -/
theorem PhiR_castSucc (c : Dev nD) (t : Fin cfg0.N) : (dats m 0 c).Φ t.castSucc = PhiR m c t.val := by
  dsimp only [dats]; simp only [Fin.coe_castSucc]
/-- and at its end. -/
theorem PhiR_succ (c : Dev nD) (t : Fin cfg0.N) : (dats m 0 c).Φ t.succ = PhiR m c (t.val + 1) := by
  dsimp only [dats]; simp only [Fin.val_succ]

/-- The accumulator after a point, from what it held before. -/
theorem accAt_succ (c : Dev nD) (t : Fin cfg0.N) : accAt m c (t.val + 1) = owns (c : Thread nD τ) scM0_2 fullShare
    (step (logitsBlock (V m c main_arg0) (Ring.bk 125 t.val)) (labelsBlock (V m c main_v0) (Ring.bk 125 t.val))
      (accAfter (V m c main_arg0) (V m c main_v0) t.val)) := by
  unfold accAt; rw [if_neg (Nat.succ_ne_zero _), accAfter]

/-! ## The body obligation, at a generic point -/

/-- Before the last point the staged result is left alone. -/
theorem leaves_early (c : Dev nD) (t : Fin cfg0.N) (h : ¬cond0_2 (grid0.coords t)) :
    (dats m 0 c).leavesExact 0 t = iprop(∃ d, owns (c : Thread nD τ) (ms0_0 t) fullShare ((dats m 0 c).before 0 t d)) :=
  (dats m 0 c).leavesExact_idle 0 t (by show (!(k0_cond3 (grid0.coords t) == 1#1)) = true; rw [beq_false_of_ne h]; rfl)
    (by rw [Bool.eq_false_iff]; exact fun hf => h ((hcond0_2 t).mpr ((flush0_0 t).mp hf)))

/-- The last point leaves the result. -/
theorem leaves_last (c : Dev nD) (t : Fin cfg0.N) (h : cond0_2 (grid0.coords t)) :
    (dats m 0 c).leavesExact 0 t = owns (c : Thread nD τ) (ms0_0 t) fullShare (result (accAfter (V m c main_arg0) (V m c main_v0) (t.val + 1))) := by
  rw [← after_eq]
  unfold Dat.leavesExact
  rw [show cfg0.idle 0 (cfg0.grid.coords t) = false by show (!(k0_cond3 (grid0.coords t) == 1#1)) = false; rw [show k0_cond3 (grid0.coords t) = 1#1 from h]; rfl]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

/-- and what it returns. -/
def bodyPost (c : Dev nD) (t : Fin cfg0.N) : sProp 𝕄 :=
  iprop((dats m 0 c).Φ t.succ ∗ (dats m 0 c).owesAt () t.succ ∗ (dats m 0 c).leavesExact 0 t)

set_option maxHeartbeats 1200000 in
/-- The body at any point, by the point's role: first, between, last. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  rw [accAt_succ]
  have hgN : grid0.N = 125 := N_0
  have hN : t.val < 125 := lt_of_lt_of_eq t.isLt (show cfg0.N = 125 from N_0)
  by_cases h0 : t.val % 125 = 0
  · by_cases h1 : t.val < 124
    · by_cases h2 : t.val % 125 = 124
      · exfalso; omega
      · have hr0 := rstep0_0_A t ((hcond0_0 t).mpr h0) ((hcond0_1 t).mpr h1) (fun h => h2 ((hcond0_2 t).mp h))
        obtain ⟨hK00, hK10⟩ := hr0
        rw [if_pos hK00, if_neg (show ¬t.val + 1 = 0 by omega)]
        rw [Ring.At₀_eq2' _ _ _ t.val hK00 (by decide : 2 ≤ 125), Ring.AtK2_one' _ _ _ _ _ t.val hK00 (by decide : 1 < 125)]
        have hr1 := rstep0_1_A t ((hcond0_0 t).mpr h0) ((hcond0_1 t).mpr h1) (fun h => h2 ((hcond0_2 t).mp h))
        obtain ⟨hK01, hK11⟩ := hr1
        rw [if_pos hK01, if_neg (show ¬t.val + 1 = 0 by omega)]
        rw [Ring.At₀_eq2' _ _ _ t.val hK01 (by decide : 2 ≤ 125), Ring.AtK2_one' _ _ _ _ _ t.val hK01 (by decide : 1 < 125)]
        rw [leaves_early m c t (fun h => h2 ((hcond0_2 t).mp h))]
        have hz : accAt m c t.val = iprop(∃ d, owns (c : Thread nD τ) scM0_2 fullShare d) := if_pos (by omega)
        have hzz : accAfter (V m c main_arg0) (V m c main_v0) t.val = k0_pay4 := by rw [show t.val = 0 by omega, accAfter]
        rw [hz, hzz]
        iintro ⟨⟨HS2, Hg, ⟨-, Hfr0_0_0, Hfr0_0_1⟩, ⟨-, Hfr0_1_0, Hfr0_1_1⟩⟩, ⟨%W, -, HW⟩, ⟨%d0, H0⟩⟩
        iapply ((kernelRun0_A c t _ _ _ _ ((hcond0_0 t).mpr h0) ((hcond0_1 t).mpr h1) (fun h => h2 ((hcond0_2 t).mp h))  (V m c main_arg0) (V m c main_v0) _) W _)
        isplitl [H0]; · iexact H0
        isplitl [HS2]; · iexact HS2
        isplitl [Hfr0_0_0]; · iexact Hfr0_0_0
        isplitl [Hfr0_0_1]; · iexact Hfr0_0_1
        isplitl [Hfr0_1_0]; · iexact Hfr0_1_0
        isplitl [Hfr0_1_1]; · iexact Hfr0_1_1
        isplitl [HW]; · iexact HW
        iintro ⟨H0, HS2, Hfl0_0', Hkp0_0', Hfl0_1', Hkp0_1', ⟨%W', HW'⟩⟩
        isplitl [HS2 Hg Hfl0_0' Hkp0_0' Hfl0_1' Hkp0_1']
        · isplitl [HS2]; · iexact HS2
          isplitl [Hg]; · iexact Hg
          isplitl [Hfl0_0' Hkp0_0']
          · iapply Ring.with_homes₀
            isplitl [Hfl0_0']; · iexact Hfl0_0'
            iexact Hkp0_0'
          iapply Ring.with_homes₀
          isplitl [Hfl0_1']; · iexact Hfl0_1'
          iexact Hkp0_1'
        isplitl [HW']
        · iexists W'; isplitr; · ipureintro; exact fun _ _ => Or.inl trivial
          iexact HW'
        iexists d0; iexact H0
    · exfalso; omega
  · by_cases h1 : t.val < 124
    · by_cases h2 : t.val % 125 = 124
      · exfalso; omega
      · have hr0 := rstep0_0_B t (fun h => h0 ((hcond0_0 t).mp h)) ((hcond0_1 t).mpr h1) (fun h => h2 ((hcond0_2 t).mp h))
        obtain ⟨hK10, hKB0, hKs0⟩ := hr0
        rw [if_neg (show ¬t.val = 0 by omega), if_neg (show ¬t.val + 1 = 0 by omega)]
        rw [Ring.AtK2_here _ _ _ _ _ t.val hK10 hKB0, Ring.AtK2_next _ _ _ _ _ t.val hK10 hKB0]
        have hr1 := rstep0_1_B t (fun h => h0 ((hcond0_0 t).mp h)) ((hcond0_1 t).mpr h1) (fun h => h2 ((hcond0_2 t).mp h))
        obtain ⟨hK11, hKB1, hKs1⟩ := hr1
        rw [if_neg (show ¬t.val = 0 by omega), if_neg (show ¬t.val + 1 = 0 by omega)]
        rw [Ring.AtK2_here _ _ _ _ _ t.val hK11 hKB1, Ring.AtK2_next _ _ _ _ _ t.val hK11 hKB1]
        rw [leaves_early m c t (fun h => h2 ((hcond0_2 t).mp h))]
        have ha : accAt m c t.val = owns (c : Thread nD τ) scM0_2 fullShare (accAfter (V m c main_arg0) (V m c main_v0) t.val) := if_neg (by omega)
        rw [ha]
        iintro ⟨⟨HS2, Hg, ⟨-, Hfl0_0, Hkp0_0⟩, ⟨-, Hfl0_1, Hkp0_1⟩⟩, ⟨%W, -, HW⟩, ⟨%d0, H0⟩⟩
        iapply ((kernelRun0_B c t _ _ _ _ (fun h => h0 ((hcond0_0 t).mp h)) ((hcond0_1 t).mpr h1) (fun h => h2 ((hcond0_2 t).mp h))  (V m c main_arg0) (V m c main_v0) _ _) W _)
        isplitl [H0]; · iexact H0
        isplitl [HS2]; · iexact HS2
        isplitl [Hfl0_0]; · iexact Hfl0_0
        isplitl [Hkp0_0]; · iexact Hkp0_0
        isplitl [Hfl0_1]; · iexact Hfl0_1
        isplitl [Hkp0_1]; · iexact Hkp0_1
        isplitl [HW]; · iexact HW
        iintro ⟨H0, HS2, Hfl0_0', Hkp0_0', Hfl0_1', Hkp0_1', ⟨%W', HW'⟩⟩
        isplitl [HS2 Hg Hfl0_0' Hkp0_0' Hfl0_1' Hkp0_1']
        · isplitl [HS2]; · iexact HS2
          isplitl [Hg]; · iexact Hg
          isplitl [Hfl0_0' Hkp0_0']
          · iapply (Ring.with_homes (Idealize.SL.BI.Entails.refl _))
            isplitl [Hfl0_0']; · iexact Hfl0_0'
            iexact Hkp0_0'
          iapply (Ring.with_homes (Idealize.SL.BI.Entails.refl _))
          isplitl [Hfl0_1']; · iexact Hfl0_1'
          iexact Hkp0_1'
        isplitl [HW']
        · iexists W'; isplitr; · ipureintro; exact fun _ _ => Or.inl trivial
          iexact HW'
        iexists d0; iexact H0
    · by_cases h2 : t.val % 125 = 124
      · have hr0 := rstep0_0_C t (fun h => h0 ((hcond0_0 t).mp h)) (fun h => h1 ((hcond0_1 t).mp h)) ((hcond0_2 t).mpr h2)
        obtain ⟨hK10, hKB0, hKs0⟩ := hr0
        rw [if_neg (show ¬t.val = 0 by omega), if_neg (show ¬t.val + 1 = 0 by omega)]
        rw [Ring.AtK2_here_last _ _ _ _ _ t.val hK10 hKB0, Ring.AtK2_next_last _ _ _ _ _ t.val hK10 hKB0]
        have hr1 := rstep0_1_C t (fun h => h0 ((hcond0_0 t).mp h)) (fun h => h1 ((hcond0_1 t).mp h)) ((hcond0_2 t).mpr h2)
        obtain ⟨hK11, hKB1, hKs1⟩ := hr1
        rw [if_neg (show ¬t.val = 0 by omega), if_neg (show ¬t.val + 1 = 0 by omega)]
        rw [Ring.AtK2_here_last _ _ _ _ _ t.val hK11 hKB1, Ring.AtK2_next_last _ _ _ _ _ t.val hK11 hKB1]
        rw [leaves_last m c t ((hcond0_2 t).mpr h2), accAfter]
        have ha : accAt m c t.val = owns (c : Thread nD τ) scM0_2 fullShare (accAfter (V m c main_arg0) (V m c main_v0) t.val) := if_neg (by omega)
        rw [ha]
        iintro ⟨⟨HS2, Hg, ⟨-, Hfl0_0, Hkp0_0⟩, ⟨-, Hfl0_1, Hkp0_1⟩⟩, ⟨%W, -, HW⟩, ⟨%d0, H0⟩⟩
        iapply ((kernelRun0_C c t _ _ _ _ (fun h => h0 ((hcond0_0 t).mp h)) (fun h => h1 ((hcond0_1 t).mp h)) ((hcond0_2 t).mpr h2)  (V m c main_arg0) (V m c main_v0) _ _) W _)
        isplitl [H0]; · iexact H0
        isplitl [HS2]; · iexact HS2
        isplitl [Hfl0_0]; · iexact Hfl0_0
        isplitl [Hfl0_1]; · iexact Hfl0_1
        isplitl [HW]; · iexact HW
        iintro ⟨H0, HS2, Hkp0_0', Hkp0_1', ⟨%W', HW'⟩⟩
        isplitl [HS2 Hg Hkp0_0 Hkp0_1 Hkp0_0' Hkp0_1']
        · isplitl [HS2]; · iexact HS2
          isplitl [Hg]; · iexact Hg
          isplitl [Hkp0_0 Hkp0_0']
          · iapply (Ring.with_homes (Idealize.SL.BI.Entails.refl _))
            isplitl [Hkp0_0]; · iexact Hkp0_0
            iexact Hkp0_0'
          iapply (Ring.with_homes (Idealize.SL.BI.Entails.refl _))
          isplitl [Hkp0_1]; · iexact Hkp0_1
          iexact Hkp0_1'
        isplitl [HW']
        · iexists W'; isplitr; · ipureintro; exact fun _ _ => Or.inl trivial
          iexact HW'
        iexact H0
      · exfalso; omega

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [show accAt m c 0 = iprop(∃ d, owns (c : Thread nD τ) scM0_2 fullShare d) from if_pos rfl]
  iintro ⟨⟨HR0_0, HR0_1, HS2⟩, Hg, ⟨Hq0, Hq1, Hq2, Hq3⟩, ⟨Hh0, Hh1⟩⟩
  isplitl [HS2]; · iexact HS2
  isplitl [Hg]; · iexact Hg
  isplitl [HR0_0 Hq0 Hq1 Hh0]
  · iapply (ring0_0_in (F := F) m c)
    isplitl [HR0_0]; · iexact HR0_0
    isplitl [Hq0 Hq1]
    · isplitl [Hq0]; · iexact Hq0
      iexact Hq1
    iexact Hh0
  iapply (ring0_1_in (F := F) m c)
  isplitl [HR0_1]; · iexact HR0_1
  isplitl [Hq2 Hq3]
  · isplitl [Hq2]; · iexact Hq2
    iexact Hq3
  iexact Hh1
/-- and the invariant after the last point hands it back. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 125 by rw [N_0], show accAt m c 125 = owns (c : Thread nD τ) scM0_2 fullShare (accAfter (V m c main_arg0) (V m c main_v0) 125) from if_neg (by decide)]
  iintro ⟨HS2, Hg, HR0_0, HR0_1⟩
  ihave HX0_0 := (ring0_0_out (F := F) m c) $$ HR0_0
  icases HX0_0 with ⟨HR0_0, ⟨Hq0, Hq1⟩, Hh0⟩
  ihave HX0_1 := (ring0_1_out (F := F) m c) $$ HR0_1
  icases HX0_1 with ⟨HR0_1, ⟨Hq2, Hq3⟩, Hh1⟩
  isplitl [HR0_0 HR0_1 HS2]
  · isplitl [HR0_0]; · iexact HR0_0
    isplitl [HR0_1]; · iexact HR0_1
    iexists _; iexact HS2
  isplitl [Hg]
  · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexact Hh1

/-! ## The run -/

set_option backward.isDefEq.respectTransparency.types false in
set_option maxHeartbeats 800000 in
/-- The launch: the output array and the later host line's result in closed form, the counters at zero. -/
theorem launch_run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- The last point. -/
def lastPoint : Fin cfg0.N := ⟨124, by decide⟩

/-- The output array after the run. -/
theorem arrAt_out (c : Dev nD) : (dats m 0 c).arrAt 0 cfg0.N = result (accAfter (V m c main_arg0) (V m c main_v0) 125) := by
  refine (dats m 0 c).arrAt_eq_of_after_last 0 lastPoint (by decide +kernel) _ fun j => ?_
  blk_simp
  exact congrFun (after_eq m c lastPoint) j

/-- The labels as the region finds them: the argument in 125 blocks. -/
theorem V_main_v0 (c : Dev nD) : V m c main_v0 = shapeCast S125x1x4000 (m ((c : Thread nD τ).loc main_arg1)) shapeCasts_S500000_S125x1x4000 := by
  show StableHlo.after (List.flatten [hostOps0]) _ _ = _
  simp only [hostOps0, List.flatten_cons, List.flatten_nil, List.append_nil, StableHlo.after_cons, StableHlo.after_nil]
  rw [StableHlo.reshape_result]
  rfl

/-- The program's result: the host's reshape of the output array. -/
theorem W_main_v2 (c : Dev nD) : Pipeline.afterTail₀ cfgs (dats m) 0 (V0 m) [hostOps1] c main_v2
    = shapeCast S1 (result (accAfter (m ((c : Thread nD τ).loc main_arg0)) (shapeCast S125x1x4000 (m ((c : Thread nD τ).loc main_arg1)) shapeCasts_S500000_S125x1x4000) 125)) shapeCasts_S1x1_S1 := by
  rw [← V_main_v0 m c, ← V_main_arg0 m c, ← arrAt_out m c]
  unfold Pipeline.afterTail₀
  simp only [hostOps1, List.flatten_cons, List.flatten_nil, List.append_nil, StableHlo.after_cons, StableHlo.after_nil]
  rw [StableHlo.reshape_result]
  exact congrArg (fun z => shapeCast S1 z shapeCasts_S1x1_S1) (Pipeline.withArrays_arr spec0 winFacts0.arr_inj c (V0 m c) _ 0)

/-- The run of the idealized kernel: its result in closed form, its arguments unchanged, the counters at zero. -/
theorem run : θ_run defs (onTc (τ := τ) (main (F := F))) ⟨m, fun _ => 0, ρ⟩ (fun r => (∀ c : Dev nD,
      r.2.mem ((c.tc : Thread nD τ).loc main_v2)
        = shapeCast S1 (result (accAfter (m ((c : Thread nD τ).loc main_arg0)) (shapeCast S125x1x4000 (m ((c : Thread nD τ).loc main_arg1)) shapeCasts_S500000_S125x1x4000) 125)) shapeCasts_S1x1_S1
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2 main_v2 (Pipeline.mem_restRefs_of main_v2 (by decide) (by decide))).trans (W_main_v2 m c),
     ((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c)⟩, h.2⟩) (launch_run m ρ)

end Cert.KernelIdeal.Value

end
-- ==== Proof.RefRun.lean ====
/- The reference program's run: its host operations as a list, and its result read back as one pure function of the
   two arguments, in the reference's own steps (softmax, top probability, predicted class, bin edges, contribution of a
   bin). The list is the printed program's, operation by operation; only the functions below are named here. -/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The operations whose functions the list cites by name -/

/-- The arg-max's first result: the largest of each row. -/
def topValue : FVec F S500000x100 .f32 → IVec S500000x100 32 → FVec F S_ .f32 → IVec S_ 32 → FVec F S500000 .f32 :=
  fun x y u v j => (Host.argReduce reducer_argmax_f32_i32 x y u v reducesTo_S500000x100_S500000_d1 h_S_ j).1
/-- The arg-max's second result: the column of the largest of each row. -/
def topIndex : FVec F S500000x100 .f32 → IVec S500000x100 32 → FVec F S_ .f32 → IVec S_ 32 → IVec S500000 32 :=
  fun x y u v j => (Host.argReduce reducer_argmax_f32_i32 x y u v reducesTo_S500000x100_S500000_d1 h_S_ j).2
/-- `linspace` puts its end point after the fifteen points it interpolates. -/
def joinLast : FVec F S15 .f32 → FVec F S1 .f32 → FVec F S16 .f32 :=
  fun a b => concatenate S16 0 [⟨S15, a⟩, ⟨S1, b⟩] concatenates_S15_S1_S16_d0

/-! ## The result, as a function of the arguments -/

/-- A value per row, repeated along the row. -/
def alongRow (r : FVec F S500000 .f32) : FVec F S500000x100 .f32 :=
  broadcastInDim S500000x100 ![0, 1] bcast_S500000x1_S500000x100_0_1 (broadcastInDim S500000x1 ![0] bcast_S500000_S500000x1_0 r)
/-- A value per row, repeated for every bin. -/
def everyBin (r : FVec F S500000 .f32) : FVec F S15x500000 .f32 :=
  broadcastInDim S15x500000 ![0, 1] bcast_S1x500000_S15x500000_0_1 (broadcastInDim S1x500000 ![1] bcast_S500000_S1x500000_1 r)
/-- A value per bin, repeated for every row. -/
def everyRow (b : FVec F S15 .f32) : FVec F S15x500000 .f32 :=
  broadcastInDim S15x500000 ![0, 1] bcast_S15x1_S15x500000_0_1 (broadcastInDim S15x1 ![0] bcast_S15_S15x1_0 b)
/-- One number, repeated for every bin. -/
def perBin (b : FVec F S_ .f32) : FVec F S15 .f32 := broadcastInDim S15 ![] bcast_S_S15 b
/-- The largest of each row. -/
def rowMax (x : FVec F S500000x100 .f32) : FVec F S500000 .f32 :=
  Host.reduce FloatOps.maximumf x (constant S_ .f32 0xFF800000#32) reducesTo_S500000x100_S500000_d1 h_S_
/-- The sum of each bin's row. -/
def binSum (x : FVec F S15x500000 .f32) : FVec F S15 .f32 :=
  Host.reduceAdd x (constant S_ .f32 0x00000000#32) reducesTo_S15x500000_S15_d1 h_S_

/-- The exponentials of the logits below their row's largest. -/
def exps (x : FVec F S500000x100 .f32) : FVec F S500000x100 .f32 :=
  Host.exp (subf x (alongRow (maximumf (broadcastInDim S500000 ![] bcast_S_S500000 (constant S_ .f32 0xFF800000#32)) (rowMax x))))
/-- The softmax of each row. -/
def softmaxes (x : FVec F S500000x100 .f32) : FVec F S500000x100 .f32 :=
  Host.divf (exps x) (alongRow (Host.reduceAdd (exps x) (constant S_ .f32 0x00000000#32) reducesTo_S500000x100_S500000_d1 h_S_))
/-- The class of the largest probability of each row. -/
def predictions (p : FVec F S500000x100 .f32) : IVec S500000 32 :=
  topIndex p (iotaInDim S500000x100 32 1) (constant S_ .f32 0xFF800000#32) (constantI S_ 32 0#32)
/-- One where the predicted class is the label, zero elsewhere. -/
def accuracies (p : FVec F S500000x100 .f32) (l : IVec S500000 32) : FVec F S500000 .f32 :=
  uitofp .f32 (cmpi .eq (predictions p) l)

/-- The fractions `i / 15` by which `linspace` interpolates. -/
def steps : FVec F S15 .f32 := Host.divf (sitofp .f32 (iotaInDim S15 32 0)) (perBin (constant S_ .f32 0x41700000#32))
/-- A number, as a vector of fifteen. -/
def ends (b : FVec F S_ .f32) : FVec F S15 .f32 :=
  broadcastInDim S15 ![0] bcast_S1_S15_0 (shapeCast S1 b shapeCasts_S_S1)
/-- The sixteen bin boundaries, `linspace(0, 1, 16)`. -/
def boundaries : FVec F S16 .f32 :=
  joinLast (addf (mulf (ends (constant S_ .f32 0x00000000#32)) (subf (perBin (constant S_ .f32 0x3F800000#32)) steps))
      (mulf (ends (constant S_ .f32 0x3F800000#32)) steps))
    (broadcastInDim S1 ![] bcast_S_S1 (constant S_ .f32 0x3F800000#32))
/-- One where a row's confidence is in a bin, zero elsewhere. -/
def inBin (conf : FVec F S500000 .f32) : FVec F S15x500000 .f32 :=
  uitofp .f32 (andi (cmpf .ogt (everyBin conf) (everyRow (extractStridedSlice S15 ![0] boundaries slices_S16_S15_0)))
    (cmpf .ole (everyBin conf) (everyRow (extractStridedSlice S15 ![1] boundaries slices_S16_S15_1))))
/-- Each bin's contribution, of its number of rows, its sum of confidences and its number of right predictions. -/
def contributions (count sumConf sumAcc : FVec F S15 .f32) : FVec F S15 .f32 :=
  let prop : FVec F S15 .f32 := Host.divf count (perBin (constant S_ .f32 0x48F42400#32))
  let safe : FVec F S15 .f32 := maximumf count (perBin (constant S_ .f32 0x3F800000#32))
  select (cmpf .ogt prop (perBin (constant S_ .f32 0x00000000#32)))
    (mulf (Host.absf (subf (Host.divf sumConf safe) (Host.divf sumAcc safe))) prop)
    (perBin (constant S_ .f32 0x00000000#32))
/-- The contributions' sum, of the rows' confidences and accuracies. -/
def ofRows (conf acc : FVec F S500000 .f32) : FVec F S1 .f32 :=
  shapeCast S1 (Host.reduceAdd (contributions (binSum (inBin conf)) (binSum (mulf (everyBin conf) (inBin conf)))
      (binSum (mulf (everyBin acc) (inBin conf)))) (constant S_ .f32 0x00000000#32) reducesTo_S15_S_d0 h_S_) shapeCasts_S_S1
/-- The reference's result: the expected calibration error of the logits `x` at the labels `l`. -/
def ece (x : FVec F S500000x100 .f32) (l : IVec S500000 32) : FVec F S1 .f32 :=
  ofRows (rowMax (softmaxes x)) (accuracies (softmaxes x) l)

/-! ## The run -/

/-- @main's operations, in order (a called function's operations stand in its call's place). -/
abbrev ops : List (HloOp τ sig (Elt F)) :=
  [ nullary main_cst (constant S_ .f32 0xFF800000#32),
    binary main_arg0 main_cst main_v0 ((fun x v => Host.reduce FloatOps.maximumf x v reducesTo_S500000x100_S500000_d1 h_S_) : (⟨S500000x100, .f32⟩ : BufTy).Contents (Elt F) → (⟨S_, .f32⟩ : BufTy).Contents (Elt F) → (⟨S500000, .f32⟩ : BufTy).Contents (Elt F)),
    nullary main_cst_0 (constant S_ .f32 0xFF800000#32),
    unary main_cst_0 main_v1 (broadcastInDim S500000 ![] bcast_S_S500000 : (⟨S_, .f32⟩ : BufTy).Contents (Elt F) → (⟨S500000, .f32⟩ : BufTy).Contents (Elt F)),
    binary main_v1 main_v0 main_v2 (maximumf : (⟨S500000, .f32⟩ : BufTy).Contents (Elt F) → (⟨S500000, .f32⟩ : BufTy).Contents (Elt F) → (⟨S500000, .f32⟩ : BufTy).Contents (Elt F)),
    unary main_v2 main_v3 (broadcastInDim S500000x1 ![0] bcast_S500000_S500000x1_0 : (⟨S500000, .f32⟩ : BufTy).Contents (Elt F) → (⟨S500000x1, .f32⟩ : BufTy).Contents (Elt F)),
    unary main_v3 main_v4 (broadcastInDim S500000x100 ![0, 1] bcast_S500000x1_S500000x100_0_1 : (⟨S500000x1, .f32⟩ : BufTy).Contents (Elt F) → (⟨S500000x100, .f32⟩ : BufTy).Contents (Elt F)),
    binary main_arg0 main_v4 main_v5 (subf : (⟨S500000x100, .f32⟩ : BufTy).Contents (Elt F) → (⟨S500000x100, .f32⟩ : BufTy).Contents (Elt F) → (⟨S500000x100, .f32⟩ : BufTy).Contents (Elt F)),
    unary main_v5 main_v6 (Host.exp : (⟨S500000x100, .f32⟩ : BufTy).Contents (Elt F) → (⟨S500000x100, .f32⟩ : BufTy).Contents (Elt F)),
    nullary main_cst_1 (constant S_ .f32 0x00000000#32),
    binary main_v6 main_cst_1 main_v7 ((fun x v => Host.reduceAdd x v reducesTo_S500000x100_S500000_d1 h_S_) : (⟨S500000x100, .f32⟩ : BufTy).Contents (Elt F) → (⟨S_, .f32⟩ : BufTy).Contents (Elt F) → (⟨S500000, .f32⟩ : BufTy).Contents (Elt F)),
    unary main_v7 main_v8 (broadcastInDim S500000x1 ![0] bcast_S500000_S500000x1_0 : (⟨S500000, .f32⟩ : BufTy).Contents (Elt F) → (⟨S500000x1, .f32⟩ : BufTy).Contents (Elt F)),
    unary main_v8 main_v9 (broadcastInDim S500000x100 ![0, 1] bcast_S500000x1_S500000x100_0_1 : (⟨S500000x1, .f32⟩ : BufTy).Contents (Elt F) → (⟨S500000x100, .f32⟩ : BufTy).Contents (Elt F)),
    binary main_v6 main_v9 main_v10 (Host.divf : (⟨S500000x100, .f32⟩ : BufTy).Contents (Elt F) → (⟨S500000x100, .f32⟩ : BufTy).Contents (Elt F) → (⟨S500000x100, .f32⟩ : BufTy).Contents (Elt F)),
    nullary main_cst_2 (constant S_ .f32 0xFF800000#32),
    binary main_v10 main_cst_2 main_v11 ((fun x v => Host.reduce FloatOps.maximumf x v reducesTo_S500000x100_S500000_d1 h_S_) : (⟨S500000x100, .f32⟩ : BufTy).Contents (Elt F) → (⟨S_, .f32⟩ : BufTy).Contents (Elt F) → (⟨S500000, .f32⟩ : BufTy).Contents (Elt F)),
    TRef.nullary (TRef.of (T := ⟨S500000x100, .i32⟩) main_call0_v0) (iotaInDim S500000x100 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S500000x100, .f32⟩) main_v10) (TRef.of (T := ⟨S500000x100, .i32⟩) main_call0_v0) (TRef.of (T := ⟨S_, .f32⟩) main_call0_cst) (TRef.of (T := ⟨S_, .i32⟩) main_call0_c) (TRef.of (T := ⟨S500000, .f32⟩) main_call0_v1_0) (topValue (F := F)),
    TRef.quaternary (TRef.of (T := ⟨S500000x100, .f32⟩) main_v10) (TRef.of (T := ⟨S500000x100, .i32⟩) main_call0_v0) (TRef.of (T := ⟨S_, .f32⟩) main_call0_cst) (TRef.of (T := ⟨S_, .i32⟩) main_call0_c) (TRef.of (T := ⟨S500000, .i32⟩) main_v12) (topIndex (F := F)),
    binary main_v12 main_arg1 main_v13 (cmpi .eq : (⟨S500000, .i32⟩ : BufTy).Contents (Elt F) → (⟨S500000, .i32⟩ : BufTy).Contents (Elt F) → (⟨S500000, .i1⟩ : BufTy).Contents (Elt F)),
    nullary main_cst_3 (constant S_ .f32 0x00000000#32),
    nullary main_cst_4 (constant S_ .f32 0x3F800000#32),
    TRef.unary (TRef.of (T := ⟨S_, .f32⟩) main_cst_3) (TRef.of (T := ⟨S_, .f32⟩) main_call1_v0) id,
    TRef.unary (TRef.of (T := ⟨S_, .f32⟩) main_cst_4) (TRef.of (T := ⟨S_, .f32⟩) main_call1_v1) id,
    TRef.binary (TRef.of (T := ⟨S_, .f32⟩) main_call1_v1) (TRef.of (T := ⟨S_, .f32⟩) main_call1_v0) (TRef.of (T := ⟨S_, .f32⟩) main_call1_v2) subf,
    TRef.nullary (TRef.of (T := ⟨S_, .f32⟩) main_call1_cst) (constant S_ .f32 0x41700000#32),
    TRef.binary (TRef.of (T := ⟨S_, .f32⟩) main_call1_v2) (TRef.of (T := ⟨S_, .f32⟩) main_call1_cst) (TRef.of (T := ⟨S_, .f32⟩) main_call1_v3) Host.divf,
    TRef.nullary (TRef.of (T := ⟨S15, .f32⟩) main_call1_v4) (sitofp .f32 (iotaInDim S15 32 0)),
    TRef.nullary (TRef.of (T := ⟨S_, .f32⟩) main_call1_cst_0) (constant S_ .f32 0x41700000#32),
    TRef.unary (TRef.of (T := ⟨S_, .f32⟩) main_call1_cst_0) (TRef.of (T := ⟨S15, .f32⟩) main_call1_v5) (broadcastInDim S15 ![] bcast_S_S15),
    TRef.binary (TRef.of (T := ⟨S15, .f32⟩) main_call1_v4) (TRef.of (T := ⟨S15, .f32⟩) main_call1_v5) (TRef.of (T := ⟨S15, .f32⟩) main_call1_v6) Host.divf,
    TRef.reshape (TRef.of (T := ⟨S_, .f32⟩) main_call1_v0) (TRef.of (T := ⟨S1, .f32⟩) main_call1_v7) (rfl : (.f32 : EltTy) = .f32) shapeCasts_S_S1,
    TRef.nullary (TRef.of (T := ⟨S_, .f32⟩) main_call1_cst_1) (constant S_ .f32 0x3F800000#32),
    TRef.unary (TRef.of (T := ⟨S_, .f32⟩) main_call1_cst_1) (TRef.of (T := ⟨S15, .f32⟩) main_call1_v8) (broadcastInDim S15 ![] bcast_S_S15),
    TRef.binary (TRef.of (T := ⟨S15, .f32⟩) main_call1_v8) (TRef.of (T := ⟨S15, .f32⟩) main_call1_v6) (TRef.of (T := ⟨S15, .f32⟩) main_call1_v9) subf,
    TRef.unary (TRef.of (T := ⟨S1, .f32⟩) main_call1_v7) (TRef.of (T := ⟨S15, .f32⟩) main_call1_v10) (broadcastInDim S15 ![0] bcast_S1_S15_0),
    TRef.binary (TRef.of (T := ⟨S15, .f32⟩) main_call1_v10) (TRef.of (T := ⟨S15, .f32⟩) main_call1_v9) (TRef.of (T := ⟨S15, .f32⟩) main_call1_v11) mulf,
    TRef.reshape (TRef.of (T := ⟨S_, .f32⟩) main_call1_v1) (TRef.of (T := ⟨S1, .f32⟩) main_call1_v12) (rfl : (.f32 : EltTy) = .f32) shapeCasts_S_S1,
    TRef.unary (TRef.of (T := ⟨S1, .f32⟩) main_call1_v12) (TRef.of (T := ⟨S15, .f32⟩) main_call1_v13) (broadcastInDim S15 ![0] bcast_S1_S15_0),
    TRef.binary (TRef.of (T := ⟨S15, .f32⟩) main_call1_v13) (TRef.of (T := ⟨S15, .f32⟩) main_call1_v6) (TRef.of (T := ⟨S15, .f32⟩) main_call1_v14) mulf,
    TRef.binary (TRef.of (T := ⟨S15, .f32⟩) main_call1_v11) (TRef.of (T := ⟨S15, .f32⟩) main_call1_v14) (TRef.of (T := ⟨S15, .f32⟩) main_call1_v15) addf,
    TRef.unary (TRef.of (T := ⟨S_, .f32⟩) main_call1_v1) (TRef.of (T := ⟨S1, .f32⟩) main_call1_v16) (broadcastInDim S1 ![] bcast_S_S1),
    TRef.binary (TRef.of (T := ⟨S15, .f32⟩) main_call1_v15) (TRef.of (T := ⟨S1, .f32⟩) main_call1_v16) (TRef.of (T := ⟨S16, .f32⟩) main_v14) (joinLast (F := F)),
    unary main_v14 main_v15 ((extractStridedSlice S15 ![0] · slices_S16_S15_0) : (⟨S16, .f32⟩ : BufTy).Contents (Elt F) → (⟨S15, .f32⟩ : BufTy).Contents (Elt F)),
    unary main_v14 main_v16 ((extractStridedSlice S15 ![1] · slices_S16_S15_1) : (⟨S16, .f32⟩ : BufTy).Contents (Elt F) → (⟨S15, .f32⟩ : BufTy).Contents (Elt F)),
    unary main_v11 main_v17 (broadcastInDim S1x500000 ![1] bcast_S500000_S1x500000_1 : (⟨S500000, .f32⟩ : BufTy).Contents (Elt F) → (⟨S1x500000, .f32⟩ : BufTy).Contents (Elt F)),
    unary main_v15 main_v18 (broadcastInDim S15x1 ![0] bcast_S15_S15x1_0 : (⟨S15, .f32⟩ : BufTy).Contents (Elt F) → (⟨S15x1, .f32⟩ : BufTy).Contents (Elt F)),
    unary main_v17 main_v19 (broadcastInDim S15x500000 ![0, 1] bcast_S1x500000_S15x500000_0_1 : (⟨S1x500000, .f32⟩ : BufTy).Contents (Elt F) → (⟨S15x500000, .f32⟩ : BufTy).Contents (Elt F)),
    unary main_v18 main_v20 (broadcastInDim S15x500000 ![0, 1] bcast_S15x1_S15x500000_0_1 : (⟨S15x1, .f32⟩ : BufTy).Contents (Elt F) → (⟨S15x500000, .f32⟩ : BufTy).Contents (Elt F)),
    binary main_v19 main_v20 main_v21 (cmpf .ogt : (⟨S15x500000, .f32⟩ : BufTy).Contents (Elt F) → (⟨S15x500000, .f32⟩ : BufTy).Contents (Elt F) → (⟨S15x500000, .i1⟩ : BufTy).Contents (Elt F)),
    unary main_v11 main_v22 (broadcastInDim S1x500000 ![1] bcast_S500000_S1x500000_1 : (⟨S500000, .f32⟩ : BufTy).Contents (Elt F) → (⟨S1x500000, .f32⟩ : BufTy).Contents (Elt F)),
    unary main_v16 main_v23 (broadcastInDim S15x1 ![0] bcast_S15_S15x1_0 : (⟨S15, .f32⟩ : BufTy).Contents (Elt F) → (⟨S15x1, .f32⟩ : BufTy).Contents (Elt F)),
    unary main_v22 main_v24 (broadcastInDim S15x500000 ![0, 1] bcast_S1x500000_S15x500000_0_1 : (⟨S1x500000, .f32⟩ : BufTy).Contents (Elt F) → (⟨S15x500000, .f32⟩ : BufTy).Contents (Elt F)),
    unary main_v23 main_v25 (broadcastInDim S15x500000 ![0, 1] bcast_S15x1_S15x500000_0_1 : (⟨S15x1, .f32⟩ : BufTy).Contents (Elt F) → (⟨S15x500000, .f32⟩ : BufTy).Contents (Elt F)),
    binary main_v24 main_v25 main_v26 (cmpf .ole : (⟨S15x500000, .f32⟩ : BufTy).Contents (Elt F) → (⟨S15x500000, .f32⟩ : BufTy).Contents (Elt F) → (⟨S15x500000, .i1⟩ : BufTy).Contents (Elt F)),
    binary main_v21 main_v26 main_v27 (andi : (⟨S15x500000, .i1⟩ : BufTy).Contents (Elt F) → (⟨S15x500000, .i1⟩ : BufTy).Contents (Elt F) → (⟨S15x500000, .i1⟩ : BufTy).Contents (Elt F)),
    unary main_v27 main_v28 (uitofp .f32 : (⟨S15x500000, .i1⟩ : BufTy).Contents (Elt F) → (⟨S15x500000, .f32⟩ : BufTy).Contents (Elt F)),
    nullary main_cst_5 (constant S_ .f32 0x00000000#32),
    binary main_v28 main_cst_5 main_v29 ((fun x v => Host.reduceAdd x v reducesTo_S15x500000_S15_d1 h_S_) : (⟨S15x500000, .f32⟩ : BufTy).Contents (Elt F) → (⟨S_, .f32⟩ : BufTy).Contents (Elt F) → (⟨S15, .f32⟩ : BufTy).Contents (Elt F)),
    nullary main_cst_6 (constant S_ .f32 0x48F42400#32),
    unary main_cst_6 main_v30 (broadcastInDim S15 ![] bcast_S_S15 : (⟨S_, .f32⟩ : BufTy).Contents (Elt F) → (⟨S15, .f32⟩ : BufTy).Contents (Elt F)),
    binary main_v29 main_v30 main_v31 (Host.divf : (⟨S15, .f32⟩ : BufTy).Contents (Elt F) → (⟨S15, .f32⟩ : BufTy).Contents (Elt F) → (⟨S15, .f32⟩ : BufTy).Contents (Elt F)),
    nullary main_cst_7 (constant S_ .f32 0x3F800000#32),
    unary main_cst_7 main_v32 (broadcastInDim S15 ![] bcast_S_S15 : (⟨S_, .f32⟩ : BufTy).Contents (Elt F) → (⟨S15, .f32⟩ : BufTy).Contents (Elt F)),
    binary main_v29 main_v32 main_v33 (maximumf : (⟨S15, .f32⟩ : BufTy).Contents (Elt F) → (⟨S15, .f32⟩ : BufTy).Contents (Elt F) → (⟨S15, .f32⟩ : BufTy).Contents (Elt F)),
    unary main_v13 main_v34 (uitofp .f32 : (⟨S500000, .i1⟩ : BufTy).Contents (Elt F) → (⟨S500000, .f32⟩ : BufTy).Contents (Elt F)),
    unary main_v34 main_v35 (broadcastInDim S1x500000 ![1] bcast_S500000_S1x500000_1 : (⟨S500000, .f32⟩ : BufTy).Contents (Elt F) → (⟨S1x500000, .f32⟩ : BufTy).Contents (Elt F)),
    unary main_v35 main_v36 (broadcastInDim S15x500000 ![0, 1] bcast_S1x500000_S15x500000_0_1 : (⟨S1x500000, .f32⟩ : BufTy).Contents (Elt F) → (⟨S15x500000, .f32⟩ : BufTy).Contents (Elt F)),
    binary main_v36 main_v28 main_v37 (mulf : (⟨S15x500000, .f32⟩ : BufTy).Contents (Elt F) → (⟨S15x500000, .f32⟩ : BufTy).Contents (Elt F) → (⟨S15x500000, .f32⟩ : BufTy).Contents (Elt F)),
    nullary main_cst_8 (constant S_ .f32 0x00000000#32),
    binary main_v37 main_cst_8 main_v38 ((fun x v => Host.reduceAdd x v reducesTo_S15x500000_S15_d1 h_S_) : (⟨S15x500000, .f32⟩ : BufTy).Contents (Elt F) → (⟨S_, .f32⟩ : BufTy).Contents (Elt F) → (⟨S15, .f32⟩ : BufTy).Contents (Elt F)),
    binary main_v38 main_v33 main_v39 (Host.divf : (⟨S15, .f32⟩ : BufTy).Contents (Elt F) → (⟨S15, .f32⟩ : BufTy).Contents (Elt F) → (⟨S15, .f32⟩ : BufTy).Contents (Elt F)),
    unary main_v11 main_v40 (broadcastInDim S1x500000 ![1] bcast_S500000_S1x500000_1 : (⟨S500000, .f32⟩ : BufTy).Contents (Elt F) → (⟨S1x500000, .f32⟩ : BufTy).Contents (Elt F)),
    unary main_v40 main_v41 (broadcastInDim S15x500000 ![0, 1] bcast_S1x500000_S15x500000_0_1 : (⟨S1x500000, .f32⟩ : BufTy).Contents (Elt F) → (⟨S15x500000, .f32⟩ : BufTy).Contents (Elt F)),
    binary main_v41 main_v28 main_v42 (mulf : (⟨S15x500000, .f32⟩ : BufTy).Contents (Elt F) → (⟨S15x500000, .f32⟩ : BufTy).Contents (Elt F) → (⟨S15x500000, .f32⟩ : BufTy).Contents (Elt F)),
    nullary main_cst_9 (constant S_ .f32 0x00000000#32),
    binary main_v42 main_cst_9 main_v43 ((fun x v => Host.reduceAdd x v reducesTo_S15x500000_S15_d1 h_S_) : (⟨S15x500000, .f32⟩ : BufTy).Contents (Elt F) → (⟨S_, .f32⟩ : BufTy).Contents (Elt F) → (⟨S15, .f32⟩ : BufTy).Contents (Elt F)),
    binary main_v43 main_v33 main_v44 (Host.divf : (⟨S15, .f32⟩ : BufTy).Contents (Elt F) → (⟨S15, .f32⟩ : BufTy).Contents (Elt F) → (⟨S15, .f32⟩ : BufTy).Contents (Elt F)),
    binary main_v44 main_v39 main_v45 (subf : (⟨S15, .f32⟩ : BufTy).Contents (Elt F) → (⟨S15, .f32⟩ : BufTy).Contents (Elt F) → (⟨S15, .f32⟩ : BufTy).Contents (Elt F)),
    unary main_v45 main_v46 (Host.absf : (⟨S15, .f32⟩ : BufTy).Contents (Elt F) → (⟨S15, .f32⟩ : BufTy).Contents (Elt F)),
    binary main_v46 main_v31 main_v47 (mulf : (⟨S15, .f32⟩ : BufTy).Contents (Elt F) → (⟨S15, .f32⟩ : BufTy).Contents (Elt F) → (⟨S15, .f32⟩ : BufTy).Contents (Elt F)),
    nullary main_cst_10 (constant S_ .f32 0x00000000#32),
    unary main_cst_10 main_v48 (broadcastInDim S15 ![] bcast_S_S15 : (⟨S_, .f32⟩ : BufTy).Contents (Elt F) → (⟨S15, .f32⟩ : BufTy).Contents (Elt F)),
    binary main_v31 main_v48 main_v49 (cmpf .ogt : (⟨S15, .f32⟩ : BufTy).Contents (Elt F) → (⟨S15, .f32⟩ : BufTy).Contents (Elt F) → (⟨S15, .i1⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S15, .f32⟩) main_call2_v1) (broadcastInDim S15 ![] bcast_S_S15),
    TRef.ternary (TRef.of (T := ⟨S15, .i1⟩) main_v49) (TRef.of (T := ⟨S15, .f32⟩) main_v47) (TRef.of (T := ⟨S15, .f32⟩) main_call2_v1) (TRef.of (T := ⟨S15, .f32⟩) main_v50) select,
    nullary main_cst_12 (constant S_ .f32 0x00000000#32),
    binary main_v50 main_cst_12 main_v51 ((fun x v => Host.reduceAdd x v reducesTo_S15_S_d0 h_S_) : (⟨S15, .f32⟩ : BufTy).Contents (Elt F) → (⟨S_, .f32⟩ : BufTy).Contents (Elt F) → (⟨S_, .f32⟩ : BufTy).Contents (Elt F)),
    reshape main_v51 main_v52 (rfl : (.f32 : EltTy) = .f32) shapeCasts_S_S1 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., nullary_bufs_sub .., nullary_bufs_sub .., quaternary_bufs_sub .., quaternary_bufs_sub .., binary_bufs_sub .., nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., nullary_bufs_sub .., binary_bufs_sub .., binary_bufs_sub .., unary_bufs_sub .., unary_bufs_sub .., binary_bufs_sub .., nullary_bufs_sub .., binary_bufs_sub .., binary_bufs_sub .., binary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., reshape_bufs_sub ..⟩

set_option maxRecDepth 8192 in
set_option maxHeartbeats 39200000 in
/-- From any memory with zero counters, every weakly fair execution of @main terminates with the result at `ece` of the
    arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = ece (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c main_v52).trans ?_, (h c main_arg0).trans ?_, (h c main_arg1).trans ?_⟩)
    (run_seq scopedRefs_eq scopedSems_eq defs main (fun _ => ops) main_eq (fun _ => ops_sub) m ρ)
  all_goals
    simp only [ops, TRef.quaternary, TRef.binary, TRef.nullary, TRef.reshape, TRef.ternary, TRef.unary, TRef.toBuf, TRef.ofBuf, cast_eq]
    after_results_simp <;> rfl

end Cert.ReferenceIdeal.Value

end
-- ==== Proof.Runs.lean ====
/- What each program of the claims does, its value apart: it ends, leaves its arguments as they were and every semaphore
   counter at zero. The kernel as printed is the idealized kernel with the one name read as the printed word, so both
   have the run of Proof/IdealFrame.lean, which holds at every reading of the floats and of the name. -/
module

public import proofs.«01_k».proof.Defs
public import proofs.«01_k».proof.Proof.Gen.Kernel
public import proofs.«01_k».proof.Proof.IdealFrame
public import proofs.«01_k».proof.Proof.RefRun

@[expose] public section

noncomputable section

namespace Cert.Proof

open Idealize.ShloMosaic Idealize.ShloMosaic.TcCoe Idealize.SL.Sem

variable {F : FTy → Type} [FloatOps F]

/-! ## The idealized kernel -/

/-- The idealized kernel ends with its arguments and its counters as they were, at any floats. -/
theorem ends_at [Named F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) Cert.KernelIdeal.main) ⟨m, fun _ => 0, ρ⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Value.run m ρ)

/-- The claim of it. -/
theorem kernelIdeal_ends : Cert.quiescent_KernelIdeal := fun m ρ _ => ends_at m ρ

/-- And under the precondition, which it does not need. -/
theorem kernelIdeal_ends_pre [Cert.Pre_label_is_first_top.Facts] : Cert.quiescent_KernelIdeal_pre_label_is_first_top := fun m ρ _ => ends_at m ρ

/-! ## The kernel as printed -/

/-- The reading of a name that takes the printed word. -/
@[reducible] def wordNamed : Named F where
  named _ _ {φ} b := Scalar.ofBits φ b

section
attribute [local instance] wordNamed

/-- With names read as words the idealized kernel's body is the printed one's. -/
theorem body_eq : Cert.KernelIdeal.cc0__ece_kernel (F := F) = Cert.Kernel.cc0__ece_kernel (F := F) := rfl

/-- So are the bodies by label. -/
theorem defs₀_eq : Cert.KernelIdeal.defs₀ (F := F) = Cert.Kernel.defs₀ (F := F) := by
  unfold Cert.KernelIdeal.defs₀ Cert.Kernel.defs₀
  refine congrArg Defs.onTc ?_
  funext a b
  match a, b with
  | 0, (t, s) => rfl

/-- And the table with the region's pipeline. -/
theorem defs_eq : Cert.KernelIdeal.defs (F := F) = Cert.Kernel.defs (F := F) := by
  unfold Cert.KernelIdeal.defs Cert.Kernel.defs
  rw [← defs₀_eq]
  rfl

/-- The main functions are one. -/
theorem main_eq : Cert.KernelIdeal.main (F := F) = Cert.Kernel.main (F := F) := rfl

/-- The kernel as printed ends with its arguments and its counters as they were. -/
theorem kernel_ends : Cert.quiescent_Kernel := fun m ρ _ => by
  have h := ends_at (F := Bits) m ρ
  rw [defs_eq, main_eq] at h
  exact h

end

/-! ## The reference -/

/-- The reference ends with its arguments and its counters as they were. -/
theorem reference_ends_at (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) Cert.ReferenceIdeal.main) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The claim of it. -/
theorem reference_ends : Cert.quiescent_ReferenceIdeal := fun m ρ _ => reference_ends_at m ρ

/-- And under the precondition, which it does not need. -/
theorem reference_ends_pre [Cert.Pre_label_is_first_top.Facts] : Cert.quiescent_ReferenceIdeal_pre_label_is_first_top :=
  fun m ρ _ => reference_ends_at m ρ

/-! ## The name -/

/-- The constant named `log2e` is `1 / ln 2`. -/
theorem log2e_preserved : Cert.preserves_Kernel_KernelIdeal :=
  IdealRules.named_const.statement Cert.KernelIdeal.κ "log2e" .f32 0x3FB8AA3B#32 (((Real.log 2)⁻¹ : ℝ) : EReal) rfl

end Cert.Proof

end
-- ==== Proof.Rows.lean ====
/- One row of logits, over the extended reals: its largest, its softmax, its confidence, and the facts by which the two
   programs agree on it. The kernel's confidence is one over the row's mass; the reference's is the largest softmax. They
   are equal when the row's largest is a real number, and neither is in a bin otherwise. -/
module

public import Idealize.ShloMosaic.PureOps.Ideal.Laws

@[expose] public section

noncomputable section

namespace Cert.Row

open Idealize.ShloMosaic

/-! ## The functions of a row -/

/-- The largest of a row. -/
def top (y : Fin 100 → EReal) : EReal := Finset.univ.fold max ⊥ y
/-- The exponential of an entry below the row's largest. -/
def expBelow (y : Fin 100 → EReal) (j : Fin 100) : EReal := Ideal.exp (y j - top y)
/-- The sum of a row's exponentials. -/
def mass (y : Fin 100 → EReal) : EReal := ∑ j, expBelow y j
/-- The kernel's confidence. -/
def conf (y : Fin 100 → EReal) : EReal := Ideal.div 1 (mass y)
/-- The softmax of a row. -/
def prob (y : Fin 100 → EReal) (j : Fin 100) : EReal := Ideal.div (expBelow y j) (mass y)
/-- The logit at the label, as the kernel finds it: a sum with a zero at every other column. -/
def atLabel (y : Fin 100 → EReal) (l : BitVec 32) : EReal := ∑ j : Fin 100, if BitVec.ofNat 32 j.val = l then y j else 0
/-- One if the label's logit is the row's largest. -/
def right (y : Fin 100 → EReal) (l : BitVec 32) : EReal := if atLabel y l = top y then 1 else 0
/-- The boundary `k / 15`. -/
def edge (k : ℕ) : EReal := ((k / 15 : ℝ) : EReal)
/-- One if a confidence is in bin `k`. -/
def inBin (c : EReal) (k : ℕ) : EReal := if edge k < c ∧ c ≤ edge (k + 1) then 1 else 0

/-! ## The largest -/

theorem le_top (y : Fin 100 → EReal) (j : Fin 100) : y j ≤ top y :=
  Finset.le_sup (f := y) (Finset.mem_univ j)

theorem top_eq (y : Fin 100 → EReal) : ∃ j, y j = top y := by
  obtain ⟨j, -, h⟩ := Finset.exists_mem_eq_sup Finset.univ Finset.univ_nonempty y
  exact ⟨j, h.symm⟩

theorem top_le {y : Fin 100 → EReal} {m : EReal} (h : ∀ j, y j ≤ m) : top y ≤ m := Finset.sup_le fun j _ => h j

/-- The largest is the entry no other exceeds. -/
theorem top_eq_of {y : Fin 100 → EReal} {m : EReal} (h : ∀ j, y j ≤ m) (j : Fin 100) (hj : y j = m) : top y = m :=
  le_antisymm (top_le h) (hj ▸ le_top y j)

/-! ## The bins -/

theorem inBin_top (k : ℕ) : inBin ⊤ k = 0 := if_neg fun h => absurd h.2 (by simp [edge])
theorem inBin_bot (k : ℕ) : inBin ⊥ k = 0 := if_neg fun h => absurd h.1 (by simp)

/-! ## The two confidences -/

/-- A sum of reals is the same sum in the extended reals. -/
theorem coe_sum {ι : Type} (s : Finset ι) (e : ι → ℝ) : ((∑ j ∈ s, e j : ℝ) : EReal) = ∑ j ∈ s, (e j : EReal) :=
  map_sum (⟨⟨Real.toEReal, EReal.coe_zero⟩, EReal.coe_add⟩ : ℝ →+ EReal) e s

/-- A row with a real largest: its exponentials are real, between zero and one, and one at the largest only. -/
theorem expBelow_real {y : Fin 100 → EReal} {t : ℝ} (ht : top y = t) :
    ∃ e : Fin 100 → ℝ, (∀ j, expBelow y j = (e j : EReal)) ∧ (∀ j, 0 ≤ e j) ∧ (∀ j, e j ≤ 1) ∧ ∀ j, e j = 1 ↔ y j = top y := by
  have h : ∀ j, ∃ e : ℝ, expBelow y j = (e : EReal) ∧ 0 ≤ e ∧ e ≤ 1 ∧ (e = 1 ↔ y j = top y) := by
    intro j
    have hj : y j ≤ (t : EReal) := ht ▸ le_top y j
    unfold expBelow
    rw [ht]
    induction hy : y j with
    | bot => exact ⟨0, by simp, le_refl _, zero_le_one, by simp⟩
    | top => simp [hy] at hj
    | coe r =>
      rw [hy, EReal.coe_le_coe_iff] at hj
      refine ⟨Real.exp (r - t), by rw [← EReal.coe_sub, Ideal.exp_coe], (Real.exp_pos _).le, Real.exp_le_one_iff.mpr (by linarith), ?_⟩
      rw [Real.exp_eq_one_iff, EReal.coe_eq_coe_iff, sub_eq_zero]
  choose e he using h
  exact ⟨e, fun j => (he j).1, fun j => (he j).2.1, fun j => (he j).2.2.1, fun j => (he j).2.2.2⟩

/-- A row whose largest is infinite has no mass. -/
theorem expBelow_infinite {y : Fin 100 → EReal} (h : top y = ⊥ ∨ top y = ⊤) (j : Fin 100) : expBelow y j = 0 := by
  unfold expBelow
  rcases h with h | h
  · have : y j = ⊥ := le_bot_iff.mp (h ▸ le_top y j)
    rw [this, EReal.bot_sub, Ideal.exp_bot]
  · rw [h, EReal.sub_top, Ideal.exp_bot]

/-- Either the row's largest is infinite, when the kernel's confidence is `⊤` and the reference's `⊥`; or the two
    confidences are equal, and the largest softmax is where the largest logit is. -/
theorem cases (y : Fin 100 → EReal) :
    (conf y = ⊤ ∧ top (prob y) = ⊥) ∨
      (top (prob y) = conf y ∧ ⊥ < top (prob y) ∧ ∀ j, prob y j = top (prob y) ↔ y j = top y) := by
  by_cases h : top y = ⊥ ∨ top y = ⊤
  · left
    have hm : mass y = 0 := Finset.sum_eq_zero fun j _ => expBelow_infinite h j
    refine ⟨by simp [conf, hm, Ideal.div], top_eq_of (fun j => ?_) 0 ?_⟩ <;>
      simp [prob, hm, expBelow_infinite h, Ideal.div]
  · right
    push Not at h
    obtain ⟨t, ht⟩ : ∃ t : ℝ, top y = t := ⟨(top y).toReal, (EReal.coe_toReal h.2 h.1).symm⟩
    obtain ⟨e, he, h0, h1, hiff⟩ := expBelow_real ht
    obtain ⟨J, hJ⟩ := top_eq y
    have hJ1 : e J = 1 := (hiff J).mpr hJ
    have hm : mass y = ((∑ j, e j : ℝ) : EReal) := by
      rw [coe_sum]; exact Finset.sum_congr rfl fun j _ => he j
    have hs : 0 < ∑ j, e j :=
      lt_of_lt_of_le (by rw [hJ1]; exact zero_lt_one) (Finset.single_le_sum (f := e) (fun j _ => h0 j) (Finset.mem_univ J))
    have hc : conf y = ((1 / ∑ j, e j : ℝ) : EReal) := by
      rw [conf, hm, Ideal.div_coe hs.ne', one_mul]
    have hp : ∀ j, prob y j = ((e j * (1 / ∑ j, e j) : ℝ) : EReal) := fun j => by
      rw [prob, hm, he, Ideal.div_coe hs.ne', EReal.coe_mul]
    have hinv : 0 < 1 / ∑ j, e j := one_div_pos.mpr hs
    have ht' : top (prob y) = conf y := by
      refine top_eq_of (fun j => ?_) J ?_
      · rw [hp, hc, EReal.coe_le_coe_iff]; exact mul_le_of_le_one_left hinv.le (h1 j)
      · rw [hp, hc, hJ1, one_mul]
    refine ⟨ht', by rw [ht', hc]; exact EReal.bot_lt_coe _, fun j => ?_⟩
    rw [ht', hp, hc, EReal.coe_eq_coe_iff, ← hiff j]
    constructor
    · intro h; exact mul_right_cancel₀ hinv.ne' (h.trans (one_mul _).symm)
    · intro h; rw [h, one_mul]

/-- The two confidences are in the same bins. -/
theorem inBin_top_prob (y : Fin 100 → EReal) (k : ℕ) : inBin (top (prob y)) k = inBin (conf y) k := by
  rcases cases y with ⟨hc, hp⟩ | ⟨h, -⟩
  · rw [hc, hp, inBin_top, inBin_bot]
  · rw [h]

/-- The two confidences weigh the same in a bin. -/
theorem conf_mul_inBin (y : Fin 100 → EReal) (k : ℕ) :
    top (prob y) * inBin (top (prob y)) k = conf y * inBin (conf y) k := by
  rcases cases y with ⟨hc, hp⟩ | ⟨h, -⟩
  · rw [hc, hp, inBin_top, inBin_bot, mul_zero, mul_zero]
  · rw [h]

/-! ## The label -/

theorem ofNat_inj {i j : Fin 100} (h : BitVec.ofNat 32 i.val = BitVec.ofNat 32 j.val) : i = j := by
  have := congrArg BitVec.toNat h
  simp only [BitVec.toNat_ofNat] at this
  ext; omega

theorem toInt_ofNat (j : Fin 100) : (BitVec.ofNat 32 j.val).toInt = j.val := by
  rw [BitVec.toInt_eq_toNat_cond]; simp only [BitVec.toNat_ofNat]; split <;> omega

/-- The logit at a label in range. -/
theorem atLabel_ofNat (y : Fin 100 → EReal) (j : Fin 100) : atLabel y (BitVec.ofNat 32 j.val) = y j := by
  unfold atLabel
  rw [Finset.sum_eq_single j (fun i _ hi => if_neg fun h => hi (ofNat_inj h)) (by simp)]
  exact if_pos rfl

/-! ## The first of the largest -/

/-- The arg-max's choice between two entries with their columns: the larger, and of two equal the one of the lesser column. -/
def choose (a b : EReal × BitVec 32) : EReal × BitVec 32 :=
  if b.1 < a.1 ∨ (a.1 = b.1 ∧ a.2.toInt < b.2.toInt) then a else b

/-- `a` is chosen over `b`. -/
def Over (a b : EReal × BitVec 32) : Prop := b.1 < a.1 ∨ (b.1 = a.1 ∧ a.2.toInt ≤ b.2.toInt)

theorem Over.refl (a : EReal × BitVec 32) : Over a a := .inr ⟨rfl, le_refl _⟩

theorem Over.trans {a b c : EReal × BitVec 32} : Over a b → Over b c → Over a c
  | .inl h, .inl h' => .inl (h'.trans h)
  | .inl h, .inr h' => .inl (h'.1 ▸ h)
  | .inr h, .inl h' => .inl (h.1 ▸ h')
  | .inr h, .inr h' => .inr ⟨h'.1.trans h.1, h.2.trans h'.2⟩

theorem choose_left (a b : EReal × BitVec 32) : Over (choose a b) a := by
  unfold choose
  split
  · exact .refl a
  · rename_i h
    push Not at h
    rcases lt_or_eq_of_le h.1 with h' | h'
    · exact .inl h'
    · exact .inr ⟨h', h.2 h'⟩

theorem choose_right (a b : EReal × BitVec 32) : Over (choose a b) b := by
  unfold choose
  split
  · rename_i h
    exact h.imp id fun h => ⟨h.1.symm, h.2.le⟩
  · exact .refl b

theorem choose_mem (a b : EReal × BitVec 32) : choose a b = a ∨ choose a b = b := by
  unfold choose; split <;> simp

/-- The fold of the choice is the start or an entry, and is chosen over each of them. -/
theorem foldl_choose (L : List (EReal × BitVec 32)) (z : EReal × BitVec 32) :
    (L.foldl choose z = z ∨ L.foldl choose z ∈ L) ∧ Over (L.foldl choose z) z ∧ ∀ p ∈ L, Over (L.foldl choose z) p := by
  induction L generalizing z with
  | nil => exact ⟨.inl rfl, .refl z, by simp⟩
  | cons p L ih =>
    obtain ⟨hm, hz, hL⟩ := ih (choose z p)
    rw [List.foldl_cons]
    refine ⟨?_, hz.trans (choose_left z p), ?_⟩
    · rcases hm with hm | hm
      · rcases choose_mem z p with h | h <;> rw [hm, h] <;> simp
      · exact .inr (List.mem_cons_of_mem _ hm)
    · intro q hq
      rcases List.mem_cons.mp hq with rfl | hq
      · exact hz.trans (choose_right z q)
      · exact hL q hq

/-- The fold over a row's entries with their columns, in any order, started at `⊥`: it answers column `j` exactly when
    `j`'s entry is the largest, provided no earlier entry is the largest if `j`'s is. -/
theorem foldl_choose_row (y : Fin 100 → EReal) (L : List (EReal × BitVec 32))
    (hL : ∀ p, p ∈ L ↔ ∃ j : Fin 100, p = (y j, BitVec.ofNat 32 j.val)) (hy : ⊥ < top y) (j : Fin 100)
    (first : y j = top y → ∀ i, i < j → y i ≠ top y) :
    (L.foldl choose (⊥, 0#32)).2 = BitVec.ofNat 32 j.val ↔ y j = top y := by
  obtain ⟨hm, hz, hO⟩ := foldl_choose L (⊥, 0#32)
  have hi : ∃ i : Fin 100, L.foldl choose (⊥, 0#32) = (y i, BitVec.ofNat 32 i.val) := by
    rcases hm with hm | hm
    · obtain ⟨J, hJ⟩ := top_eq y
      have := hO _ ((hL _).mpr ⟨J, rfl⟩)
      rw [hm] at this
      rcases this with h | h
      · simp at h
      · exact absurd (hJ.symm.trans h.1) hy.ne'
    · exact (hL _).mp hm
  obtain ⟨i, hi⟩ := hi
  rw [hi] at hO ⊢
  have htop : y i = top y := by
    obtain ⟨J, hJ⟩ := top_eq y
    rcases hO _ ((hL _).mpr ⟨J, rfl⟩) with h | h
    · exact absurd h (not_lt.mpr (hJ ▸ le_top y i))
    · exact h.1.symm.trans hJ
  constructor
  · intro h; rw [← ofNat_inj h]; exact htop
  · intro h
    have hji : ¬ i < j := fun hlt => first h i hlt htop
    rcases hO _ ((hL _).mpr ⟨j, rfl⟩) with h' | h'
    · exact absurd h' (not_lt.mpr (htop ▸ h ▸ le_refl _))
    · have := h'.2
      simp only [toInt_ofNat] at this
      have : i = j := by rw [Fin.lt_def] at hji; ext; omega
      rw [this]

/-! ## The change of base -/

/-- `2 ^ (a / ln 2) = e ^ a`, at the infinities too. -/
theorem exp2_mul (a : EReal) : Ideal.exp2 (a * (((Real.log 2)⁻¹ : ℝ) : EReal)) = Ideal.exp a := by
  have hlog : 0 < Real.log 2 := Real.log_pos (by norm_num)
  induction a with
  | bot => rw [EReal.bot_mul_coe_of_pos (inv_pos.mpr hlog)]; rfl
  | top => rw [EReal.top_mul_coe_of_pos (inv_pos.mpr hlog)]; rfl
  | coe r =>
    rw [← EReal.coe_mul, Ideal.exp2_coe, Ideal.exp_coe]
    congr 1
    show (2 : ℝ) ^ (r * (Real.log 2)⁻¹) = _
    rw [Real.rpow_def_of_pos (by norm_num)]
    congr 1
    field_simp

end Cert.Row
-- ==== Proof.Consts.lean ====
/- The constant words of the two programs, at the extended reals, and the boundaries and bits made of them. -/
module

public import proofs.«01_k».proof.Proof.Rows

@[expose] public section

noncomputable section

namespace Cert.Row

open Idealize.ShloMosaic

theorem ofBits_fifteen : Ideal.ofBits .f32 0x41700000#32 = ((15 : ℝ) : EReal) := by
  simp [Ideal.ofBits, Ideal.ieee, -EReal.coe_mul]; norm_num
theorem ofBits_negInf : Ideal.ofBits .f32 0xFF800000#32 = ⊥ := by
  simp [Ideal.ofBits, Ideal.ieee]

/-- A bin's share of the error, of its number of rows, its sum of confidences and its number of right predictions. -/
def share (count sumConf sumRight : EReal) : EReal :=
  if 0 < Ideal.div count (Ideal.ofBits .f32 0x48F42400#32) then
    (FloatOps.absf (F := Ideal) (φ := .f32) (Ideal.div sumConf (max count 1) - Ideal.div sumRight (max count 1) : EReal) : EReal) *
      Ideal.div count (Ideal.ofBits .f32 0x48F42400#32)
  else 0

/-- The number `k`, of its word. -/
theorem sitofp_ofNat (k : ℕ) (h : k < 15) : (FloatOps.sitofp .f32 (BitVec.ofNat 32 k) : Ideal .f32) = ((k : ℝ) : EReal) := by
  show (((BitVec.ofNat 32 k).toInt : ℝ) : EReal) = _
  rw [Row.toInt_ofNat ⟨k, by omega⟩]; simp

/-- The kernel's lower boundary. -/
theorem lower_eq (k : ℕ) (h : k < 15) :
    Ideal.div (FloatOps.sitofp .f32 (BitVec.ofNat 32 k) : Ideal .f32) (Ideal.ofBits .f32 0x41700000#32) = edge k := by
  rw [sitofp_ofNat k h, ofBits_fifteen, Ideal.div_coe (by norm_num), ← EReal.coe_mul, edge]
  congr 1; ring
/-- The kernel's upper boundary. -/
theorem upper_eq (k : ℕ) (h : k < 15) :
    Ideal.div (((FloatOps.sitofp .f32 (BitVec.ofNat 32 k) : Ideal .f32) : EReal) + 1) (Ideal.ofBits .f32 0x41700000#32) = edge (k + 1) := by
  rw [sitofp_ofNat k h, ofBits_fifteen, Ideal.div_coe (by norm_num), ← EReal.coe_one, ← EReal.coe_add, ← EReal.coe_mul, edge]
  congr 1; push_cast; ring
/-- The reference's boundary, interpolated between zero and one. -/
theorem between_eq (k : ℕ) : (0 : EReal) * (1 - edge k) + edge k = edge k := by rw [zero_mul, zero_add]
/-- The last boundary. -/
theorem edge_last : edge 15 = 1 := by rw [edge]; norm_num

/-- A bit as a number: signed, of the word it widens to. -/
theorem sitofp_bit (p : Prop) [Decidable p] :
    (FloatOps.sitofp .f32 (BitVec.setWidth 32 (BitVec.ofBool (decide p))) : Ideal .f32) = (if p then (1 : EReal) else 0) := by
  by_cases h : p <;> simp only [h, decide_true, decide_false, if_true, if_false]
  · show (((BitVec.setWidth 32 (BitVec.ofBool true)).toInt : ℝ) : EReal) = 1
    rw [show (BitVec.setWidth 32 (BitVec.ofBool true)).toInt = 1 by decide]; norm_num
  · show (((BitVec.setWidth 32 (BitVec.ofBool false)).toInt : ℝ) : EReal) = 0
    rw [show (BitVec.setWidth 32 (BitVec.ofBool false)).toInt = 0 by decide]; norm_num
/-- A bit as a number, unsigned. -/
theorem uitofp_bit (p : Prop) [Decidable p] :
    (FloatOps.uitofp .f32 (BitVec.ofBool (decide p)) : Ideal .f32) = (if p then (1 : EReal) else 0) := by
  by_cases h : p <;> simp only [h, decide_true, decide_false, if_true, if_false]
  · show (((BitVec.ofBool true).toNat : ℝ) : EReal) = 1
    rw [show (BitVec.ofBool true).toNat = 1 by decide]; norm_num
  · show (((BitVec.ofBool false).toNat : ℝ) : EReal) = 0
    rw [show (BitVec.ofBool false).toNat = 0 by decide]; norm_num
/-- Two bits' conjunction. -/
theorem andi_bit (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]
/-- A choice by the equality of two words. -/
theorem select_eq (a b : BitVec 32) (u v : EReal) : Scalar.select (IntOp.cmpi .eq a b) u v = if a = b then u else v := by
  unfold Scalar.select IntOp.cmpi
  by_cases h : a = b
  · simp [h]
  · rw [show (a == b) = false by simpa using h]; simp [h]

end Cert.Row
-- ==== Proof.KernelValue.lean ====
/- What the idealized kernel's accumulator holds after all its blocks: for each bin the number of rows, the sum of their
   confidences and the number of right predictions, over all the rows. -/
module

public import proofs.«01_k».proof.Proof.IdealBlock
public import proofs.«01_k».proof.Proof.Consts

@[expose] public section

set_option maxRecDepth 16384

noncomputable section

namespace Cert.KernelIdeal.Value

open Cert.KernelIdeal.Gen
open Idealize.ShloMosaic Idealize.ShloMosaic.TcCoe Idealize.ShloMosaic.Tactic

/-! ## A block -/

section Block

variable (xb : Vec Ideal S1x4000x100 .f32) (lb : Vec Ideal S1x1x4000 .i32) (p : Fin 4000) (k : Fin 15)

/-- A row of a block. -/
def blockRow (xb : Vec Ideal S1x4000x100 .f32) (p : Fin 4000) : Fin 100 → EReal := fun q => xb (ix3 0 p q)

/-- The named constant is one over the logarithm of two. -/
theorem log2e_eq : (Named.named κ "log2e" 0x3FB8AA3B#32 : Ideal .f32) = (((Real.log 2)⁻¹ : ℝ) : EReal) :=
  IdealRules.named_const.ideal_named_scalar _ _ _ _ rfl

theorem logits_apply (q : Fin 100) : k0_pay5 xb (ix2 p q) = blockRow xb p q := by pointwise [k0_pay5]; rfl

theorem max_apply : k0_pay7 xb (ix2 p 0) = Row.top (blockRow xb p) := by
  pointwise [k0_pay7]
  simp only [logits_apply]
  rw [Row.ofBits_negInf]; rfl

theorem conf_apply : k0_pay8 (k0_pay5 xb) (k0_pay7 xb) (ix2 p 0) = Row.conf (blockRow xb p) := by
  pointwise [k0_pay8]
  simp only [logits_apply, max_apply]
  rw [log2e_eq]
  rw [Row.conf, Row.mass]
  congr 1
  exact Finset.sum_congr rfl fun x _ => Row.exp2_mul _

theorem right_apply : k0_pay9 (k0_pay5 xb) (k0_pay6 lb) (k0_pay7 xb) (ix2 p 0) = Row.right (blockRow xb p) (lb (ix3 0 0 p)) := by
  pointwise [k0_pay9, k0_pay6]
  simp only [logits_apply, max_apply, Row.select_eq, Row.sitofp_bit]
  rfl

theorem bin_apply : k0_pay10 (k0_pay5 xb) (k0_pay7 xb) (ix2 p k) = Row.inBin (Row.conf (blockRow xb p)) k := by
  pointwise [k0_pay10]
  simp only [conf_apply, Row.andi_bit, Row.sitofp_bit, Row.lower_eq _ k.isLt, Row.upper_eq _ k.isLt]
  rfl

theorem step_count (a : S3x15.Idx → Elt Ideal .f32) : step xb lb a (ix2 0 k) = a (ix2 0 k) + ∑ p, Row.inBin (Row.conf (blockRow xb p)) k := by
  show k0_pay11 (k0_pay5 xb) (k0_pay7 xb) (accRow a 0) (ix2 0 k) = _
  pointwise [k0_pay11]
  simp only [bin_apply]
  rfl

theorem step_conf (a : S3x15.Idx → Elt Ideal .f32) :
    step xb lb a (ix2 1 k) = a (ix2 1 k) + ∑ p, Row.conf (blockRow xb p) * Row.inBin (Row.conf (blockRow xb p)) k := by
  show k0_pay1 (k0_pay12 (accRow a 1)) (k0_pay13 (k0_pay5 xb) (k0_pay7 xb)) (ix2 0 k) = _
  pointwise [k0_pay1, k0_pay12, k0_pay13]
  simp only [bin_apply, conf_apply]
  rfl

theorem step_right (a : S3x15.Idx → Elt Ideal .f32) :
    step xb lb a (ix2 2 k) = a (ix2 2 k) + ∑ p, Row.right (blockRow xb p) (lb (ix3 0 0 p)) * Row.inBin (Row.conf (blockRow xb p)) k := by
  show k0_pay2 (k0_pay9 (k0_pay5 xb) (k0_pay6 lb) (k0_pay7 xb)) (k0_pay10 (k0_pay5 xb) (k0_pay7 xb)) (accRow a 2) (ix2 0 k) = _
  pointwise [k0_pay2]
  simp only [bin_apply, right_apply]
  rfl

end Block

/-! ## All the blocks -/

/-- The row of the logits at `r`. -/
def row (x : S500000x100.Idx → Elt Ideal .f32) (r : Fin 500000) : Fin 100 → EReal := fun q => x (ix2 r q)

/-- Row `p` of block `b`, among all the rows. -/
def rowOf (b : Fin 125) (p : Fin 4000) : Fin 500000 := ⟨4000 * b.val + p.val, by omega⟩

/-- A sum over the blocks of sums over their rows is the sum over all the rows. -/
theorem sum_rows (f : Fin 500000 → EReal) : ∑ b : Fin 125, ∑ p : Fin 4000, f (rowOf b p) = ∑ r, f r := by
  rw [← Fintype.sum_prod_type' (f := fun b p => f (rowOf b p))]
  refine Fintype.sum_equiv (finProdFinEquiv (m := 125) (n := 4000)) _ _ fun bp => congrArg f (Fin.ext ?_)
  show 4000 * bp.1.val + bp.2.val = bp.2.val + 4000 * bp.1.val
  omega

/-- A row of the accumulator that adds a block's sum at every block holds the sum over all the rows at the end. -/
theorem accAfter_row (x : S500000x100.Idx → Elt Ideal .f32) (l : S125x1x4000.Idx → Elt Ideal .i32) (f : Fin 500000 → EReal) (i : S3x15.Idx)
    (h0 : (k0_pay4 : FVec Ideal S3x15 .f32) i = 0)
    (h : ∀ b a, step (logitsBlock x b) (labelsBlock l b) a i = a i + ∑ p, f (rowOf b p)) :
    accAfter x l 125 i = ∑ r, f r := by
  have : ∀ n, n ≤ 125 → accAfter x l n i = ∑ b ∈ Finset.range n, ∑ p, f (rowOf (Ring.bk 125 b) p) := by
    intro n hn
    induction n with
    | zero => exact h0
    | succ n ih => rw [Finset.sum_range_succ, ← ih (by omega)]; exact h _ _
  rw [this 125 le_rfl, ← sum_rows, Finset.sum_range]
  exact Finset.sum_congr rfl fun b _ => by rw [show Ring.bk 125 b.val = b from Fin.ext (Ring.bk_val b.isLt)]

variable (x : S500000x100.Idx → Elt Ideal .f32) (l : S500000.Idx → Elt Ideal .i32) (k : Fin 15)

theorem blockRow_logits (b : Fin 125) (p : Fin 4000) : blockRow (logitsBlock x b) p = row x (rowOf b p) := rfl

theorem labels_apply (b : Fin 125) (p : Fin 4000) :
    labelsBlock (F := Ideal) (shapeCast S125x1x4000 l shapeCasts_S500000_S125x1x4000) b (ix3 0 0 p) = l (ix1 (rowOf b p)) := by
  show shapeCast S125x1x4000 l shapeCasts_S500000_S125x1x4000 (ix3 b 0 p) = _
  pointwise []
  exact congrArg (fun r => l (ix1 r)) (Fin.ext (by show b.val * 4000 + p.val = 4000 * b.val + p.val; omega))

theorem start_apply (i : S3x15.Idx) : (k0_pay4 : FVec Ideal S3x15 .f32) i = 0 := by
  obtain ⟨a, b, rfl⟩ : ∃ (a : Fin 3) (b : Fin 15), i = ix2 a b := ⟨i 0, i 1, eq_ix2 i⟩
  pointwise [k0_pay4]

/-- The accumulator of the labels in blocks, after all the blocks. -/
abbrev total : S3x15.Idx → Elt Ideal .f32 := accAfter x (shapeCast S125x1x4000 l shapeCasts_S500000_S125x1x4000) 125

theorem total_count : total x l (ix2 0 k) = ∑ r, Row.inBin (Row.conf (row x r)) k :=
  accAfter_row x _ _ _ (start_apply _) fun b a => step_count _ _ k a

theorem total_conf : total x l (ix2 1 k) = ∑ r, Row.conf (row x r) * Row.inBin (Row.conf (row x r)) k :=
  accAfter_row x _ _ _ (start_apply _) fun b a => step_conf _ _ k a

theorem total_right : total x l (ix2 2 k) = ∑ r, Row.right (row x r) (l (ix1 r)) * Row.inBin (Row.conf (row x r)) k :=
  accAfter_row x _ (fun r => Row.right (row x r) (l (ix1 r)) * Row.inBin (Row.conf (row x r)) k) _ (start_apply _) fun b a => by
    refine (step_right _ _ k a).trans (congrArg (a (ix2 2 k) + ·) (Finset.sum_congr rfl fun p _ => ?_))
    rw [labels_apply]; rfl

/-- The kernel's result: the sum of the bins' shares. -/
theorem result_apply : result (total x l) (ix2 0 0) = ∑ k : Fin 15, Row.share (∑ r, Row.inBin (Row.conf (row x r)) k)
    (∑ r, Row.conf (row x r) * Row.inBin (Row.conf (row x r)) k) (∑ r, Row.right (row x r) (l (ix1 r)) * Row.inBin (Row.conf (row x r)) k) := by
  have h : ∀ a b c : Vec Ideal S1x15 .f32, k0_pay3 a b c (ix2 0 0) = ∑ k : Fin 15, Row.share (a (ix2 0 k)) (b (ix2 0 k)) (c (ix2 0 k)) := by
    intro a b c
    pointwise [k0_pay3]
    rfl
  rw [result, h]
  refine Finset.sum_congr rfl fun k _ => ?_
  rw [← total_count x l k, ← total_conf x l k, ← total_right x l k]
  rfl

end Cert.KernelIdeal.Value

end
-- ==== Proof.RefValue.lean ====
/- The reference's result, entry by entry: the softmax of each row, its largest, the predicted class, the bins, and the sum
   of the bins' shares. -/
module

public import proofs.«01_k».proof.Proof.RefRun
public import proofs.«01_k».proof.Proof.Consts
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.ShloMosaic.Tactic

/-- A scalar broadcast to a shape is that scalar everywhere. -/
theorem broadcast_scalar {α : Type} {u t : Shape} {dims : Fin u.rank → Fin t.rank} (h : u.BroadcastsInDim t dims) (v : α) (i : t.Idx) :
    broadcastInDim t dims h (fun _ => v) i = v := rfl

theorem maximumf_apply {s : Shape} (a b : FVec Ideal s .f32) (i : s.Idx) : maximumf a b i = max (a i : EReal) (b i) := rfl

theorem subf_apply {s : Shape} (a b : FVec Ideal s .f32) (i : s.Idx) : subf a b i = ((a i : EReal) - b i : EReal) := rfl

theorem exp_apply {s : Shape} (a : FVec Ideal s .f32) (i : s.Idx) : Host.exp a i = Ideal.exp (a i) := rfl

theorem divf_apply {s : Shape} (a b : FVec Ideal s .f32) (i : s.Idx) : Host.divf a b i = Ideal.div (a i) (b i) := rfl

theorem constant_eq {s : Shape} (w : BitVec 32) : (constant s .f32 w : FVec Ideal s .f32) = fun _ => Ideal.ofBits .f32 w := rfl

variable (x : FVec Ideal S500000x100 .f32) (l : IVec S500000 32) (r : Fin 500000) (j : Fin 100) (k : Fin 15)

/-- The row of the logits at `r`. -/
def row (x : FVec Ideal S500000x100 .f32) (r : Fin 500000) : Fin 100 → EReal := fun j => x (ix2 r j)

theorem alongRow_apply (z : FVec Ideal S500000 .f32) : alongRow z (ix2 r j) = z (ix1 r) := by pointwise [alongRow]

theorem rowMax_apply : rowMax x (ix1 r) = Row.top (row x r) := by
  pointwise [rowMax]
  rw [Row.ofBits_negInf]; rfl

theorem rowSum_apply (z : FVec Ideal S500000x100 .f32) :
    Host.reduceAdd z (constant S_ .f32 0x00000000#32) reducesTo_S500000x100_S500000_d1 h_S_ (ix1 r) = ∑ j, row z r j := by
  pointwise []
  rfl

theorem exps_apply : exps x (ix2 r j) = Row.expBelow (row x r) j := by
  unfold exps
  rw [exp_apply, subf_apply, alongRow_apply, maximumf_apply, constant_eq, broadcast_scalar, Row.ofBits_negInf, rowMax_apply, max_eq_right bot_le]
  rfl

theorem row_exps : row (exps x) r = Row.expBelow (row x r) := funext fun j => exps_apply x r j

theorem softmaxes_apply : softmaxes x (ix2 r j) = Row.prob (row x r) j := by
  unfold softmaxes
  rw [divf_apply, alongRow_apply, rowSum_apply, exps_apply, row_exps]
  rfl

theorem row_softmaxes : row (softmaxes x) r = Row.prob (row x r) := funext fun j => softmaxes_apply x r j

/-! ## The predicted class -/

/-- The arg-max's body chooses. -/
theorem reducer_eq : (reducer_argmax_f32_i32 : Ideal .f32 × BitVec 32 → Ideal .f32 × BitVec 32 → Ideal .f32 × BitVec 32) = Row.choose := by
  funext a b
  simp only [reducer_argmax_f32_i32, Row.choose, Ideal.cmpf_def, Ideal.cmp, IntOp.cmpi, IntOp.ori, IntOp.andi, Scalar.select]
  rcases lt_trichotomy (a.1 : EReal) b.1 with h | h | h
  · simp [h, h.ne, h.not_gt]
  · by_cases h' : a.2.toInt < b.2.toInt
    · rw [if_pos (.inr ⟨h, h'⟩)]
      have : a.2.slt b.2 = true := by rw [BitVec.slt_eq_decide]; simpa using h'
      simp [h, this]; exact Prod.ext h.symm rfl
    · rw [if_neg (by rintro (h1 | h1); exacts [h.not_gt h1, h' h1.2])]
      have : a.2.slt b.2 = false := by rw [BitVec.slt_eq_decide]; simpa using h'
      simp [h, this]
  · simp [h, h.ne', h.not_gt]

/-- The entries the arg-max folds for a row: the row's, with their columns. -/
theorem mem_fiber (p : FVec Ideal S500000x100 .f32) (q : EReal × BitVec 32) :
    q ∈ Host.argReduceFiber p (iotaInDim S500000x100 32 1) reducesTo_S500000x100_S500000_d1 (ix1 r)
      ↔ ∃ j : Fin 100, q = (row p r j, BitVec.ofNat 32 j.val) := by
  have hd : ∀ i : S500000x100.Idx, reducesTo_S500000x100_S500000_d1.drop i = ix1 r ↔ (i 0 : Fin 500000) = r := by
    intro i
    have := Shape.ReducesTo.drop_apply_val_of_eq reducesTo_S500000x100_S500000_d1 i 0 0
    constructor
    · intro h; rw [h] at this; exact Fin.ext this.symm
    · intro h; funext a; obtain rfl : a = 0 := Subsingleton.elim _ _
      exact Fin.ext (this.trans (congrArg Fin.val h))
  simp only [Host.argReduceFiber, List.mem_map, List.mem_filter, List.mem_finRange, true_and, decide_eq_true_eq]
  constructor
  · rintro ⟨n, hn, rfl⟩
    generalize S500000x100.rowMajor.symm n = i at hn ⊢
    obtain ⟨a, b, rfl⟩ : ∃ (a : Fin 500000) (b : Fin 100), i = ix2 a b := ⟨i 0, i 1, eq_ix2 i⟩
    obtain rfl : a = r := (hd _).mp hn
    exact ⟨b, rfl⟩
  · rintro ⟨j, rfl⟩
    refine ⟨S500000x100.rowMajor (ix2 r j), ?_, ?_⟩
    · rw [Equiv.symm_apply_apply]; exact (hd _).mpr rfl
    · rw [Equiv.symm_apply_apply]; rfl

/-- The arg-max's second result is the column its fold of the choice ends with. -/
theorem argReduce_eq {s t : Shape} {axes : List (Fin s.rank)} (p : FVec Ideal s .f32) (y : IVec s 32) (h : s.ReducesTo axes t) (i : t.Idx) :
    (Host.argReduce reducer_argmax_f32_i32 p y (constant S_ .f32 0xFF800000#32) (constantI S_ 32 0#32) h h_S_ i).2
      = ((Host.argReduceFiber p y h i).foldl Row.choose (⊥, 0#32)).2 := by
  rw [Ideal.argReduce_eq_reduce2, Host.reduce2_eq_foldl_fiber, reducer_eq, constant_eq, Row.ofBits_negInf]
  rfl

/-- The predicted classes are the arg-max's second result. -/
theorem predictions_eq (p : FVec Ideal S500000x100 .f32) : predictions p = fun i => (Host.argReduce reducer_argmax_f32_i32 p
    (iotaInDim S500000x100 32 1) (constant S_ .f32 0xFF800000#32) (constantI S_ 32 0#32) reducesTo_S500000x100_S500000_d1 h_S_ i).2 := by
  unfold predictions topIndex
  with_reducible rfl

/-- The predicted class of a row: a column of the row's largest, `j` if the largest is at `j` and nowhere before. -/
theorem predictions_apply (p : FVec Ideal S500000x100 .f32) (hp : ⊥ < Row.top (row p r))
    (first : row p r j = Row.top (row p r) → ∀ i, i < j → row p r i ≠ Row.top (row p r)) :
    predictions p (ix1 r) = BitVec.ofNat 32 j.val ↔ row p r j = Row.top (row p r) := by
  rw [predictions_eq]
  beta_reduce
  rw [argReduce_eq]
  exact Row.foldl_choose_row _ _ (mem_fiber r p) hp j first

/-! ## The bins -/

theorem boundaries_apply (i : Fin 16) : boundaries (F := Ideal) (ix1 i) = Row.edge i := by
  pointwise [boundaries, joinLast, ends, perBin, steps]
  split
  · rename_i h
    rw [Row.lower_eq _ h, Row.between_eq]
  · rename_i h
    rw [show i.val = 15 by omega, Row.edge_last]

theorem inBin_apply (c : FVec Ideal S500000 .f32) : inBin c (ix2 k r) = Row.inBin (c (ix1 r)) k := by
  pointwise [inBin, everyBin, everyRow]
  rw [Row.andi_bit, Row.uitofp_bit]
  simp only [boundaries_apply]
  rw [Nat.add_comm 1]
  rfl

theorem binSum_apply (z : FVec Ideal S15x500000 .f32) : binSum z (ix1 k) = ∑ r, z (ix2 k r) := by pointwise [binSum]

theorem weighed_apply (c a : FVec Ideal S500000 .f32) : mulf (everyBin a) (inBin c) (ix2 k r) = a (ix1 r) * Row.inBin (c (ix1 r)) k := by
  rw [← inBin_apply]
  pointwise [everyBin]

theorem contributions_apply (c s a : FVec Ideal S15 .f32) : contributions c s a (ix1 k) = Row.share (c (ix1 k)) (s (ix1 k)) (a (ix1 k)) := by
  pointwise [contributions, perBin]
  rfl

theorem ofRows_apply (c a : FVec Ideal S500000 .f32) : ofRows c a (ix1 0) = ∑ k : Fin 15, Row.share (∑ r : Fin 500000, Row.inBin (c (ix1 r)) k)
    (∑ r : Fin 500000, (c (ix1 r) : EReal) * Row.inBin (c (ix1 r)) k) (∑ r : Fin 500000, (a (ix1 r) : EReal) * Row.inBin (c (ix1 r)) k) := by
  pointwise [ofRows]
  simp only [contributions_apply, binSum_apply, weighed_apply, inBin_apply]

theorem accuracies_apply (p : FVec Ideal S500000x100 .f32) : accuracies p l (ix1 r) = if predictions p (ix1 r) = l (ix1 r) then (1 : EReal) else 0 := by
  rw [← Row.uitofp_bit]
  show FloatOps.uitofp .f32 (BitVec.ofBool (predictions p (ix1 r) == l (ix1 r))) = _
  rfl

end Cert.ReferenceIdeal.Value

end
-- ==== Proof.FirstTop.lean ====
/- What the precondition says of a row: the label is a column, and if its logit is the row's largest, no earlier one is. -/
module

public import proofs.«01_k».proof.Pre_label_is_first_top
public import proofs.«01_k».proof.Proof.Consts
public import Idealize.ShloMosaic.Lib.Pointwise

@[expose] public section

set_option maxRecDepth 16384

noncomputable section

namespace Cert.Pre_label_is_first_top

open Idealize.ShloMosaic Idealize.ShloMosaic.Tactic

/-- The shapes' side conditions. -/
theorem facts : Facts where
  bcast_S500000_S500000x1_0 := by decide
  reducesTo_S500000x100_S500000_d1 := by decide
  h_S_ := by decide
  bcast_S500000x1_S500000x100_0_1 := by decide
  bcast_S_S500000x100 := by decide
  bcast_S_S500000x1 := by decide

variable [Facts]
open Facts

section Apply

variable {s t : Shape} {α : Type}

theorem andi_apply (a b : IVec s 1) (i : s.Idx) : andi a b i = IntOp.andi (a i) (b i) := rfl
theorem noti_apply (a : IVec s 1) (i : s.Idx) : noti a i = ~~~ a i := rfl
theorem cmpi_apply (p : CmpIPredicate) (a b : IVec s 32) (i : s.Idx) : cmpi p a b i = IntOp.cmpi p (a i) (b i) := rfl
theorem cmpf_apply (p : CmpFPredicate) (a b : FVec Ideal s .f32) (i : s.Idx) : cmpf p a b i = Ideal.cmp p (a i) (b i) := rfl
theorem select_apply (c : IVec s 1) (a b : s.Idx → α) (i : s.Idx) : select c a b i = Scalar.select (c i) (a i) (b i) := rfl
theorem scalar_apply (dims : Fin S_.rank → Fin t.rank) (h : S_.BroadcastsInDim t dims) (v : α) (i : t.Idx) :
    broadcastInDim t dims h (fun _ : S_.Idx => v) i = v := rfl
theorem constant_eq (w : BitVec 32) : (constant s .f32 w : FVec Ideal s .f32) = fun _ => Ideal.ofBits .f32 w := rfl
theorem constantI_eq (w : BitVec 32) : constantI s 32 w = fun _ => w := rfl
theorem iota_apply (r : Fin 500000) (j : Fin 100) : iotaInDim S500000x100 32 1 (ix2 r j) = BitVec.ofNat 32 j.val := rfl

variable (r : Fin 500000) (j : Fin 100)

theorem column_apply (z : S500000.Idx → α) : broadcastInDim S500000x1 ![0] bcast_S500000_S500000x1_0 z (ix2 r 0) = z (ix1 r) := by pointwise []
theorem along_apply (z : S500000x1.Idx → α) : broadcastInDim S500000x100 ![0, 1] bcast_S500000x1_S500000x100_0_1 z (ix2 r j) = z (ix2 r 0) := by pointwise []
theorem max_apply (z : FVec Ideal S500000x100 .f32) : Host.reduce FloatOps.maximumf z (constant S_ .f32 0xFF800000#32) reducesTo_S500000x100_S500000_d1 h_S_ (ix1 r)
    = Row.top fun j => z (ix2 r j) := by
  pointwise []
  rw [Row.ofBits_negInf]; rfl

end Apply

/-- The precondition at an entry, in the row's own terms. -/
theorem fn_apply (x : FVec Ideal S500000x100 .f32) (l : IVec S500000 32) (r : Fin 500000) (j : Fin 100) :
    fn x l (ix2 r j) = IntOp.andi (IntOp.andi (IntOp.cmpi .sge (l (ix1 r)) 0#32) (IntOp.cmpi .slt (l (ix1 r)) 100#32))
      (~~~ IntOp.andi (IntOp.andi (IntOp.cmpi .slt (BitVec.ofNat 32 j.val) (l (ix1 r))) (Ideal.cmp .oeq (x (ix2 r j)) (Row.top fun j => x (ix2 r j))))
        (Ideal.cmp .oeq (Row.top fun j => if BitVec.ofNat 32 j.val = l (ix1 r) then x (ix2 r j) else ⊥) (Row.top fun j => x (ix2 r j)))) := by
  unfold fn fn_part1 fn_where
  simp only [id, constantI_eq]
  rw [andi_apply, noti_apply, andi_apply, andi_apply, cmpi_apply, cmpf_apply, along_apply, along_apply, along_apply, along_apply,
    andi_apply, cmpi_apply, cmpi_apply, cmpf_apply, column_apply, column_apply, column_apply, scalar_apply, scalar_apply,
    iota_apply, max_apply, max_apply]
  have h : ∀ j : Fin 100, select (cmpi .eq (iotaInDim S500000x100 32 1) (broadcastInDim S500000x100 ![0, 1] bcast_S500000x1_S500000x100_0_1
      (broadcastInDim S500000x1 ![0] bcast_S500000_S500000x1_0 l))) x
      (broadcastInDim S500000x100 ![] bcast_S_S500000x100 (constant S_ .f32 0xFF800000#32)) (ix2 r j)
        = if BitVec.ofNat 32 j.val = l (ix1 r) then x (ix2 r j) else (⊥ : EReal) := by
    intro j
    rw [select_apply, cmpi_apply, along_apply, column_apply, iota_apply, constant_eq, scalar_apply, Row.select_eq, Row.ofBits_negInf]
  rw [funext h]

theorem andi_one {a b : BitVec 1} (h : IntOp.andi a b = 1#1) : a = 1#1 ∧ b = 1#1 := by
  revert h; unfold IntOp.andi; revert a b; decide

theorem not_andi {a b c : BitVec 1} (h : ~~~ IntOp.andi (IntOp.andi a b) c = 1#1) (ha : a = 1#1) (hb : b = 1#1) : c ≠ 1#1 := by
  subst ha hb; revert h; unfold IntOp.andi; revert c; decide

/-- A word between zero and ninety-nine is a column. -/
theorem column_of {w : BitVec 32} (h0 : IntOp.cmpi .sge w 0#32 = 1#1) (h1 : IntOp.cmpi .slt w 100#32 = 1#1) :
    ∃ j : Fin 100, w = BitVec.ofNat 32 j.val := by
  have a0 : 0 ≤ w.toInt := by
    have : BitVec.sle 0#32 w = true := by
      by_contra hc; rw [Bool.not_eq_true] at hc; simp [IntOp.cmpi, hc] at h0
    simpa [BitVec.sle_eq_decide] using this
  have a1 : w.toInt < 100 := by
    have : BitVec.slt w 100#32 = true := by
      by_contra hc; rw [Bool.not_eq_true] at hc; simp [IntOp.cmpi, hc] at h1
    simpa [BitVec.slt_eq_decide] using this
  have h : w.toInt = w.toNat := by
    rw [BitVec.toInt_eq_toNat_cond] at a0 ⊢; split <;> [rfl; (have := w.isLt; omega)]
  refine ⟨⟨w.toNat, by omega⟩, ?_⟩
  apply BitVec.eq_of_toNat_eq
  simp

/-- An earlier column's word is less. -/
theorem slt_of_lt {i j : Fin 100} (h : i < j) : IntOp.cmpi .slt (BitVec.ofNat 32 i.val) (BitVec.ofNat 32 j.val) = 1#1 := by
  have : BitVec.slt (BitVec.ofNat 32 i.val) (BitVec.ofNat 32 j.val) = true := by
    rw [BitVec.slt_eq_decide, Row.toInt_ofNat, Row.toInt_ofNat]; simpa using h
  simp [IntOp.cmpi, this]

theorem oeq_of {a b : EReal} (h : a = b) : Ideal.cmp .oeq a b = 1#1 := by subst h; simp [Ideal.cmp]

/-- What the precondition says of a row. -/
theorem of_pre {x : FVec Ideal S500000x100 .f32} {l : IVec S500000 32} (h : fn x l = fun _ => 1#1) (r : Fin 500000) :
    ∃ j : Fin 100, l (ix1 r) = BitVec.ofNat 32 j.val ∧
      ((fun j => x (ix2 r j)) j = Row.top (fun j => x (ix2 r j)) → ∀ i, i < j → (fun j => x (ix2 r j)) i ≠ Row.top (fun j => x (ix2 r j))) := by
  have hf : ∀ i : Fin 100, _ := fun i => andi_one ((fn_apply x l r i).symm.trans (congrFun h (ix2 r i)))
  obtain ⟨j, hj⟩ := column_of (andi_one (hf 0).1).1 (andi_one (hf 0).1).2
  refine ⟨j, hj, fun htop i hi hitop => not_andi (hf i).2 ?_ ?_ ?_⟩
  · rw [hj]; exact slt_of_lt hi
  · exact oeq_of hitop
  · have e : Row.top (fun k : Fin 100 => if BitVec.ofNat 32 k.val = l (ix1 r) then x (ix2 r k) else (⊥ : EReal)) = x (ix2 r j) := by
      refine Row.top_eq_of (fun k => ?_) j (if_pos hj.symm)
      split
      · rename_i hk; rw [Row.ofNat_inj (hk.trans hj)]
      · exact bot_le
    rw [e]
    exact oeq_of htop

end Cert.Pre_label_is_first_top

end
-- ==== Proof.Value.lean ====
/- The two programs' results are equal: row by row the two confidences are in the same bins with the same weight, and in a
   bin the kernel's test of the label is the reference's comparison of the predicted class with it. -/
module

public import proofs.«01_k».proof.Proof.KernelValue
public import proofs.«01_k».proof.Proof.RefValue
public import proofs.«01_k».proof.Proof.FirstTop
public import Idealize.ShloMosaic.Lib.Pointwise

@[expose] public section

set_option maxRecDepth 16384

noncomputable section

namespace Cert.Proof

open Idealize.ShloMosaic Idealize.ShloMosaic.TcCoe

/-- What a row's prediction weighs in a bin, in the two programs. -/
theorem right_eq [Cert.Pre_label_is_first_top.Facts] {x : FVec Ideal ReferenceIdeal.S500000x100 .f32} {l : IVec ReferenceIdeal.S500000 32}
    (h : Cert.Pre_label_is_first_top.fn x l = fun _ => 1#1) (r : Fin 500000) (k : ℕ) :
    (ReferenceIdeal.Value.accuracies (ReferenceIdeal.Value.softmaxes x) l (ix1 r) : EReal) *
        Row.inBin (Row.top (Row.prob (ReferenceIdeal.Value.row x r))) k
      = Row.right (ReferenceIdeal.Value.row x r) (l (ix1 r)) * Row.inBin (Row.conf (ReferenceIdeal.Value.row x r)) k := by
  rcases Row.cases (ReferenceIdeal.Value.row x r) with ⟨hc, hp⟩ | ⟨hc, hbot, htop⟩
  · rw [hc, hp, Row.inBin_top, Row.inBin_bot, mul_zero, mul_zero]
  · obtain ⟨j, hj, first⟩ := Cert.Pre_label_is_first_top.of_pre h r
    have hpred := ReferenceIdeal.Value.predictions_apply r j (ReferenceIdeal.Value.softmaxes x)
      (by rw [ReferenceIdeal.Value.row_softmaxes]; exact hbot) (by
        rw [ReferenceIdeal.Value.row_softmaxes]
        exact fun hy i hi hiy => first ((htop j).mp hy) i hi ((htop i).mp hiy))
    rw [ReferenceIdeal.Value.row_softmaxes, htop j] at hpred
    rw [ReferenceIdeal.Value.accuracies_apply, hc, Row.right, hj, Row.atLabel_ofNat]
    simp only [hpred]

/-- The row is one function, at either program's shapes. -/
theorem row_eq (x : FVec Ideal ReferenceIdeal.S500000x100 .f32) : KernelIdeal.Value.row x = ReferenceIdeal.Value.row x := rfl

/-- The results are equal where the precondition holds. -/
theorem value_eq [Cert.Pre_label_is_first_top.Facts] (x : FVec Ideal ReferenceIdeal.S500000x100 .f32) (l : IVec ReferenceIdeal.S500000 32)
    (h : Cert.Pre_label_is_first_top.fn x l = fun _ => 1#1) :
    (shapeCast KernelIdeal.S1 (KernelIdeal.Value.result (KernelIdeal.Value.total x l)) KernelIdeal.Gen.shapeCasts_S1x1_S1 : FVec Ideal KernelIdeal.S1 .f32)
      = ReferenceIdeal.Value.ece x l := by
  have hk : ∀ z : FVec Ideal KernelIdeal.S1x1 .f32, shapeCast KernelIdeal.S1 z KernelIdeal.Gen.shapeCasts_S1x1_S1 (ix1 0) = z (ix2 0 0) := by
    intro z; pointwise []
  funext i
  obtain ⟨a, rfl⟩ : ∃ a : Fin 1, i = ix1 a := ⟨i 0, eq_ix1 i⟩
  obtain rfl : a = 0 := Subsingleton.elim _ _
  rw [hk, KernelIdeal.Value.result_apply]
  unfold ReferenceIdeal.Value.ece
  rw [ReferenceIdeal.Value.ofRows_apply]
  refine Finset.sum_congr rfl fun k _ => ?_
  have hr : ∀ r, ReferenceIdeal.Value.rowMax (ReferenceIdeal.Value.softmaxes x) (ix1 r) = Row.top (Row.prob (ReferenceIdeal.Value.row x r)) := by
    intro r; rw [ReferenceIdeal.Value.rowMax_apply, ReferenceIdeal.Value.row_softmaxes]
  rw [row_eq]
  refine (congr (congr (congrArg Row.share ?_) ?_) ?_).symm <;> refine Finset.sum_congr rfl fun r _ => ?_
  · rw [hr, Row.inBin_top_prob]
  · rw [hr, Row.conf_mul_inBin]
  · rw [hr, right_eq h]

end Cert.Proof

end
-- ==== Proof.lean ====
/- The claims, assembled: the frames and the named constant from Proof/Runs.lean, and the equality of the two runs' results
   from Proof/Value.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Runs
public import proofs.«01_k».proof.Proof.Value
public import Idealize.ShloMosaic.Adequacy
public import Idealize.ShloMosaic.Init

@[expose] public section

noncomputable section

namespace Cert.Proof

open Idealize.ShloMosaic Idealize.SL.Sem Cert.Kernel

/-- From equal arguments the idealized kernel and the reference end with equal results, where the precondition holds. -/
theorem results_equal [Cert.Pre_label_is_first_top.Facts] : Cert.algebraic_KernelIdeal_ReferenceIdeal_pre_label_is_first_top :=
  fun m ρ m' ρ' hpre hag =>
    ⟨fun c => Cert.ReferenceIdeal.Value.ece (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      (θ_run _ _ _).mono (fun _ h c => ⟨((h.1 c).1).trans (value_eq _ _ (hpre c)), (h.1 c).2⟩) (Cert.KernelIdeal.Value.run m ρ),
      (θ_run _ _ _).mono (fun _ h c => ⟨(h c).1.trans (by rw [(hag c).1, (hag c).2]), (h c).2⟩) (Cert.ReferenceIdeal.Value.run m' ρ')⟩

theorem claim : Cert.Claim :=
  have := Cert.Pre_label_is_first_top.facts
  ⟨Cert.Kernel.Gen.facts, Cert.KernelIdeal.Gen.facts, Cert.ReferenceIdeal.Gen.facts, Cert.Pre_label_is_first_top.facts,
    kernel_ends, kernelIdeal_ends, kernelIdeal_ends_pre, reference_ends, reference_ends_pre, log2e_preserved, results_equal⟩

end Cert.Proof

end
